-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S1 : Shape := ⟨1, ![1]⟩
abbrev S4096x1024 : Shape := ⟨2, ![4096, 1024]⟩
abbrev S2x1024x2048 : Shape := ⟨3, ![2, 1024, 2048]⟩
abbrev S512x2048 : Shape := ⟨2, ![512, 2048]⟩
abbrev S7x512x1024 : Shape := ⟨3, ![7, 512, 1024]⟩
abbrev S2x2 : Shape := ⟨2, ![2, 2]⟩
abbrev S8 : Shape := ⟨1, ![8]⟩
abbrev S_ : Shape := ⟨0, ![]⟩
abbrev S1x1 : Shape := ⟨2, ![1, 1]⟩
abbrev S1x1024x1024 : Shape := ⟨3, ![1, 1024, 1024]⟩
abbrev S1024x1024 : Shape := ⟨2, ![1024, 1024]⟩
abbrev S512x1024 : Shape := ⟨2, ![512, 1024]⟩
abbrev S1x1024x2048 : Shape := ⟨3, ![1, 1024, 2048]⟩
abbrev S1024x2048 : Shape := ⟨2, ![1024, 2048]⟩
abbrev S1x512x1024 : Shape := ⟨3, ![1, 512, 1024]⟩

abbrev nBuf : Space → Nat
  | .hbm => 5
  | .vmem => 6
  | .smem => 2
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S2x1024x2048, .f32⟩
  | .local _ .vmem, ⟨3, _⟩ => ⟨S512x2048, .f32⟩
  | .local _ .vmem, ⟨4, _⟩ => ⟨S7x512x1024, .bf16⟩
  | .local _ .vmem, ⟨5, _⟩ => ⟨S7x512x1024, .bf16⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 32 := Scalar.addi v2 c1_i32_1
  let c8_i32_2 : BitVec 32 := 8#32
  let v8 : BitVec 32 := Scalar.remsi v7 c8_i32_2
  let c1_i32_4 : BitVec 32 := 1#32
  let v9 : BitVec 32 := Scalar.muli v8 c1_i32_4
  let v10 : BitVec 32 := Scalar.addi c0_i32 v9
  v10.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.addi v2 c2_i32
  let c8_i32_5 : BitVec 32 := 8#32
  let v12 : BitVec 32 := Scalar.remsi v11 c8_i32_5
  let c1_i32_7 : BitVec 32 := 1#32
  let v13 : BitVec 32 := Scalar.muli v12 c1_i32_7
  let v14 : BitVec 32 := Scalar.addi c0_i32_8 v13
  v14.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.addi v2 c3_i32
  let c8_i32_9 : BitVec 32 := 8#32
  let v16 : BitVec 32 := Scalar.remsi v15 c8_i32_9
  let c1_i32_11 : BitVec 32 := 1#32
  let v17 : BitVec 32 := Scalar.muli v16 c1_i32_11
  let v18 : BitVec 32 := Scalar.addi c0_i32_12 v17
  v18.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v19 : BitVec 32 := Scalar.addi v2 c4_i32
  let c8_i32_13 : BitVec 32 := 8#32
  let v20 : BitVec 32 := Scalar.remsi v19 c8_i32_13
  let c1_i32_15 : BitVec 32 := 1#32
  let v21 : BitVec 32 := Scalar.muli v20 c1_i32_15
  let v22 : BitVec 32 := Scalar.addi c0_i32_16 v21
  v22.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v23 : BitVec 32 := Scalar.addi v2 c5_i32
  let c8_i32_17 : BitVec 32 := 8#32
  let v24 : BitVec 32 := Scalar.remsi v23 c8_i32_17
  let c1_i32_19 : BitVec 32 := 1#32
  let v25 : BitVec 32 := Scalar.muli v24 c1_i32_19
  let v26 : BitVec 32 := Scalar.addi c0_i32_20 v25
  v26.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v27 : BitVec 32 := Scalar.addi v2 c6_i32
  let c8_i32_21 : BitVec 32 := 8#32
  let v28 : BitVec 32 := Scalar.remsi v27 c8_i32_21
  let c1_i32_23 : BitVec 32 := 1#32
  let v29 : BitVec 32 := Scalar.muli v28 c1_i32_23
  let v30 : BitVec 32 := Scalar.addi c0_i32_24 v29
  v30.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v31 : BitVec 32 := Scalar.addi v2 c7_i32
  let c8_i32_25 : BitVec 32 := 8#32
  let v32 : BitVec 32 := Scalar.remsi v31 c8_i32_25
  let c1_i32_27 : BitVec 32 := 1#32
  let v33 : BitVec 32 := Scalar.muli v32 c1_i32_27
  let v34 : BitVec 32 := Scalar.addi c0_i32_28 v33
  v34.toNat
def k0_off1 (d0 : Dev nD) (c1_i32_30 : BitVec 32) : Fin 2 → Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v35 : BitVec 32 := Scalar.addi v2 c1_i32_30
  let c8_i32_31 : BitVec 32 := 8#32
  let v36 : BitVec 32 := Scalar.remsi v35 c8_i32_31
  let c1024_i32 : BitVec 32 := 1024#32
  let v37 : BitVec 32 := Scalar.muli v36 c1024_i32
  ![0, v37.toNat]
def k0_off2 (d0 : Dev nD) (c1_i32_47 : BitVec 32) : Fin 2 → Nat :=
  let c1024_i32_55 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v51 : BitVec 32 := Scalar.addi v2 c1_i32_47
  let c8_i32_48 : BitVec 32 := 8#32
  let v52 : BitVec 32 := Scalar.remsi v51 c8_i32_48
  let c1024_i32_49 : BitVec 32 := 1024#32
  let v53 : BitVec 32 := Scalar.muli v52 c1024_i32_49
  ![1024, v53.toNat]
def k0_off3 (d0 : Dev nD) (c1_i32_84 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v85 : BitVec 32 := Scalar.addi v2 c1_i32_84
  let c8_i32_85 : BitVec 32 := 8#32
  let v86 : BitVec 32 := Scalar.remsi v85 c8_i32_85
  let c1024_i32_86 : BitVec 32 := 1024#32
  let v87 : BitVec 32 := Scalar.muli v86 c1024_i32_86
  ![2048, v87.toNat]
def k0_off4 (d0 : Dev nD) (c1_i32_121 : BitVec 32) : Fin 2 → Nat :=
  let c3072_i32 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v121 : BitVec 32 := Scalar.addi v2 c1_i32_121
  let c8_i32_122 : BitVec 32 := 8#32
  let v122 : BitVec 32 := Scalar.remsi v121 c8_i32_122
  let c1024_i32_123 : BitVec 32 := 1024#32
  let v123 : BitVec 32 := Scalar.muli v122 c1024_i32_123
  ![3072, v123.toNat]
def k0_dev8 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_222 : BitVec 32 := 1#32
  let v218 : BitVec 32 := Scalar.addi v2 c1_i32_222
  let c8_i32_223 : BitVec 32 := 8#32
  let v219 : BitVec 32 := Scalar.remsi v218 c8_i32_223
  let c1_i32_228 : BitVec 32 := 1#32
  let v220 : BitVec 32 := Scalar.muli v219 c1_i32_228
  let v221 : BitVec 32 := Scalar.addi c0_i32_229 v220
  v221.toNat
def k0_dev9 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_240 : BitVec 32 := 2#32
  let v239 : BitVec 32 := Scalar.addi v2 c2_i32_240
  let c8_i32_241 : BitVec 32 := 8#32
  let v240 : BitVec 32 := Scalar.remsi v239 c8_i32_241
  let c1_i32_246 : BitVec 32 := 1#32
  let v241 : BitVec 32 := Scalar.muli v240 c1_i32_246
  let v242 : BitVec 32 := Scalar.addi c0_i32_247 v241
  v242.toNat
def k0_dev10 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_415 : BitVec 32 := 3#32
  let v402 : BitVec 32 := Scalar.addi v2 c3_i32_415
  let c8_i32_416 : BitVec 32 := 8#32
  let v403 : BitVec 32 := Scalar.remsi v402 c8_i32_416
  let c1_i32_421 : BitVec 32 := 1#32
  let v404 : BitVec 32 := Scalar.muli v403 c1_i32_421
  let v405 : BitVec 32 := Scalar.addi c0_i32_422 v404
  v405.toNat
def k0_dev11 (d0 : Dev nD) : Nat :=
  let c0_i32_439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_432 : BitVec 32 := 4#32
  let v423 : BitVec 32 := Scalar.addi v2 c4_i32_432
  let c8_i32_433 : BitVec 32 := 8#32
  let v424 : BitVec 32 := Scalar.remsi v423 c8_i32_433
  let c1_i32_438 : BitVec 32 := 1#32
  let v425 : BitVec 32 := Scalar.muli v424 c1_i32_438
  let v426 : BitVec 32 := Scalar.addi c0_i32_439 v425
  v426.toNat
def k0_dev12 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_607 : BitVec 32 := 5#32
  let v586 : BitVec 32 := Scalar.addi v2 c5_i32_607
  let c8_i32_608 : BitVec 32 := 8#32
  let v587 : BitVec 32 := Scalar.remsi v586 c8_i32_608
  let c1_i32_613 : BitVec 32 := 1#32
  let v588 : BitVec 32 := Scalar.muli v587 c1_i32_613
  let v589 : BitVec 32 := Scalar.addi c0_i32_614 v588
  v589.toNat
def k0_dev13 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_624 : BitVec 32 := 6#32
  let v607 : BitVec 32 := Scalar.addi v2 c6_i32_624
  let c8_i32_625 : BitVec 32 := 8#32
  let v608 : BitVec 32 := Scalar.remsi v607 c8_i32_625
  let c1_i32_630 : BitVec 32 := 1#32
  let v609 : BitVec 32 := Scalar.muli v608 c1_i32_630
  let v610 : BitVec 32 := Scalar.addi c0_i32_631 v609
  v610.toNat
def k0_off5 (d0 : Dev nD) (c1_i32_636 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v619 : BitVec 32 := Scalar.subi v2 c1_i32_636
  let c8_i32_637 : BitVec 32 := 8#32
  let v620 : BitVec 32 := Scalar.addi v619 c8_i32_637
  let c8_i32_638 : BitVec 32 := 8#32
  let v621 : BitVec 32 := Scalar.remsi v620 c8_i32_638
  let c512_i32 : BitVec 32 := 512#32
  let v633 : BitVec 32 := Scalar.muli v621 c512_i32
  let v634 : Index := Scalar.indexCast v633
  let c0_652 : Index := 0#32
  ![v634.toNat, 0]
def k0_dev14 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_798 : BitVec 32 := 7#32
  let v772 : BitVec 32 := Scalar.addi v2 c7_i32_798
  let c8_i32_799 : BitVec 32 := 8#32
  let v773 : BitVec 32 := Scalar.remsi v772 c8_i32_799
  let c1_i32_804 : BitVec 32 := 1#32
  let v774 : BitVec 32 := Scalar.muli v773 c1_i32_804
  let v775 : BitVec 32 := Scalar.addi c0_i32_805 v774
  v775.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_813 : BitVec 32 := 512#32
  let v789 : BitVec 32 := Scalar.muli v2 c512_i32_813
  let v790 : Index := Scalar.indexCast v789
  let c0_814 : Index := 0#32
  ![v790.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Spec.lean ====
/-
# What every buffer of the kernel holds, as functions of the memory at launch

Eight devices. Device `c` holds its 512 rows of `x` and all of `w`. It forms, for each shift `u < 7`, the product of
its rows with the 1024 columns of `w` that belong to device `c + u + 1`, scales and clamps it, rounds it to bf16 and
sends it there; the product with its own columns it keeps in f32. Products are formed two at a time (pair `p < 4`),
each in four steps over 1024 rows of `w`, through a two-slot buffer the rows of `w` are copied into.

Here every such content is written as a function of an index, so that a copy that has landed, a store that has been
made and a load can each be compared with it element by element.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Lib.Transfers

@[expose] public section

set_option maxRecDepth 16384

noncomputable section

namespace Cert.MeshMatmul

open Cert.KernelIdeal Cert.KernelIdeal.Gen
open Idealize.ShloMosaic Idealize.ShloMosaic.TcCoe
open Idealize.SL Idealize.SL.Sem

variable {F : FTy → Type} [FloatOps F]

/-! ## Indices -/

/-- An index of an `a × b` array, its coordinates taken modulo the sizes. -/
def at2 (a b : ℕ) (ha : 0 < a) (hb : 0 < b) (x y : ℕ) : (⟨2, ![a, b]⟩ : Shape).Idx :=
  fun | ⟨0, _⟩ => ⟨x % a, Nat.mod_lt _ ha⟩ | ⟨1, _⟩ => ⟨y % b, Nat.mod_lt _ hb⟩

/-- An index of an `a × b × d` array, its coordinates taken modulo the sizes. -/
def at3 (a b d : ℕ) (ha : 0 < a) (hb : 0 < b) (hd : 0 < d) (x y z : ℕ) : (⟨3, ![a, b, d]⟩ : Shape).Idx :=
  fun | ⟨0, _⟩ => ⟨x % a, Nat.mod_lt _ ha⟩ | ⟨1, _⟩ => ⟨y % b, Nat.mod_lt _ hb⟩ | ⟨2, _⟩ => ⟨z % d, Nat.mod_lt _ hd⟩

abbrev ixX (x y : ℕ) : S512x4096.Idx := at2 512 4096 (by decide) (by decide) x y
abbrev ixW (x y : ℕ) : S4096x8192.Idx := at2 4096 8192 (by decide) (by decide) x y
abbrev ixV (x y z : ℕ) : S2x1024x2048.Idx := at3 2 1024 2048 (by decide) (by decide) (by decide) x y z
abbrev ixY (x y : ℕ) : S512x2048.Idx := at2 512 2048 (by decide) (by decide) x y
abbrev ixT (x y : ℕ) : S512x1024.Idx := at2 512 1024 (by decide) (by decide) x y
abbrev ixS (x y : ℕ) : S1x512x1024.Idx := at3 1 512 1024 (by decide) (by decide) (by decide) 0 x y

/-- The one index of a one-element array. -/
def ix1 : S1.Idx := Shape.Idx.first (s := S1) (by decide)

theorem idx2_ext {a b : ℕ} {i j : (⟨2, ![a, b]⟩ : Shape).Idx} (h0 : (i 0).val = (j 0).val) (h1 : (i 1).val = (j 1).val) : i = j :=
  funext fun | ⟨0, _⟩ => Fin.ext h0 | ⟨1, _⟩ => Fin.ext h1

theorem idx3_ext {a b d : ℕ} {i j : (⟨3, ![a, b, d]⟩ : Shape).Idx} (h0 : (i 0).val = (j 0).val) (h1 : (i 1).val = (j 1).val)
    (h2 : (i 2).val = (j 2).val) : i = j :=
  funext fun | ⟨0, _⟩ => Fin.ext h0 | ⟨1, _⟩ => Fin.ext h1 | ⟨2, _⟩ => Fin.ext h2

/-! ## The devices -/

/-- The device `u + 1` places after `c`. -/
def pe (c : Dev nD) (u : Fin 7) : Dev nD := ⟨(c.val + u.val + 1) % 8, Nat.mod_lt _ (by decide)⟩
/-- The shift that leads back: `pe (pe c u) (bk u) = c`. -/
def bk (u : Fin 7) : Fin 7 := ⟨6 - u.val, by omega⟩

theorem pe_bk (c : Dev nD) (u : Fin 7) : pe (pe c u) (bk u) = c := by revert c u; decide
theorem pe_bk' (c : Dev nD) (u : Fin 7) : pe (pe c (bk u)) u = c := by revert c u; decide
theorem bk_bk (u : Fin 7) : bk (bk u) = u := by revert u; decide

/-! ## The contents -/

section Contents
variable (m : (ℓ : Loc nD τ sig) → Buf (Elt F) ℓ)

/-- Device `c`'s rows of `x`. -/
def xC (c : Dev nD) : Vec F S512x4096 .f32 := m ((c : Thread nD τ).loc main_arg0)
/-- Device `c`'s copy of `w`. -/
def wC (c : Dev nD) : Vec F S4096x8192 .f32 := m ((c : Thread nD τ).loc main_arg1)
/-- Device `c`'s two scales. -/
def sxC (c : Dev nD) : Vec F S1 .f32 := m ((c : Thread nD τ).loc main_arg2)
def swC (c : Dev nD) : Vec F S1 .f32 := m ((c : Thread nD τ).loc main_arg3)

/-- Columns `1024 k …` of device `c`'s rows. -/
def xBlk (c : Dev nD) (k : ℕ) : Vec F S512x1024 .f32 := fun i => xC m c (ixX (i 0).val (1024 * k + (i 1).val))

/-- The element of `w` that step `k` of pair `p` needs at row `r`, column `n` of a slot: row `1024 k + r`, and the column
    of the pair's first device for `n < 1024`, of its second after. -/
def wAt (c : Dev nD) (p k : ℕ) (r n : ℕ) : Elt F .f32 :=
  wC m c (ixW (1024 * k + r) (1024 * ((c.val + 2 * p + n / 1024 + 1) % 8) + n % 1024))

/-- A slot buffer that holds those elements in both slots. -/
def wBuf (c : Dev nD) (p k : ℕ) : Vec F S2x1024x2048 .f32 := fun i => wAt m c p k (i 1).val (i 2).val
/-- One slot of it. -/
def wBlk (c : Dev nD) (p k : ℕ) : Vec F S1x1024x2048 .f32 := fun i => wAt m c p k (i 1).val (i 2).val

/-- The pair's accumulator after step `k`. -/
def acc (c : Dev nD) (p : ℕ) : ℕ → Vec F S512x2048 .f32
  | 0 => k0_pay2 (xBlk m c 0) (wBlk m c p 0)
  | k + 1 => k0_pay3 (xBlk m c (k + 1)) (wBlk m c p (k + 1)) (acc c p k)

/-- The product of the two scales. -/
def scl (c : Dev nD) : F .f32 := k0_pay1 (sxC m c ix1) (swC m c ix1)

/-- The left (`j = 0`) or right (`j = 1`) half of an accumulator. -/
def half (j : ℕ) (Y : Vec F S512x2048 .f32) : Vec F S512x1024 .f32 := fun i => Y (ixY (i 0).val (1024 * j + (i 1).val))

/-- The bf16 tile device `c` sends `u + 1` places on. -/
def tile (c : Dev nD) (u : Fin 7) : FVec F S1x512x1024 .bf16 := k0_pay6 (scl m c) (half (u.val % 2) (acc m c (u.val / 2) 3))
/-- The f32 tile device `c` keeps. -/
def own (c : Dev nD) : FVec F S512x1024 .f32 := k0_pay30 (scl m c) (half 1 (acc m c 3 3))

/-- A seven-slot buffer that holds a tile in every slot. -/
def tBuf (T : FVec F S1x512x1024 .bf16) : Vec F S7x512x1024 .bf16 := fun i => T (ixS (i 1).val (i 2).val)

/-- What device `c` reads back of the tile that came over shift `u`. -/
def got (c : Dev nD) (u : Fin 7) : FVec F S512x1024 .f32 := k0_pay22 (tile m (pe c (bk u)) u)

/-- The result block of device `c`: its own tile in rows `512 c …`, the tile of device `o` in rows `512 o …`. -/
def outC (c : Dev nD) : Vec F S4096x1024 .f32 := fun i =>
  if h : (i 0).val / 512 = c.val then own m c (ixT ((i 0).val % 512) (i 1).val)
  else got m c ⟨(c.val + 7 - (i 0).val / 512) % 8 % 7, Nat.mod_lt _ (by decide)⟩ (ixT ((i 0).val % 512) (i 1).val)

end Contents

/-! ## The payload terms agree: the program's steps differ only in names -/

section Pays
theorem pay8_eq : (k0_pay8 (F := F)) = k0_pay2 := rfl
theorem pay15_eq : (k0_pay15 (F := F)) = k0_pay2 := rfl
theorem pay24_eq : (k0_pay24 (F := F)) = k0_pay2 := rfl
theorem pay4_eq : (k0_pay4 (F := F)) = k0_pay3 := rfl
theorem pay5_eq : (k0_pay5 (F := F)) = k0_pay3 := rfl
theorem pay9_eq : (k0_pay9 (F := F)) = k0_pay3 := rfl
theorem pay10_eq : (k0_pay10 (F := F)) = k0_pay3 := rfl
theorem pay12_eq (a : Vec F S512x1024 .f32) (b) (y) : k0_pay12 (F := F) (k0_pay11 a b y) = k0_pay3 a b y := rfl
theorem pay17_eq (a : Vec F S512x1024 .f32) (b) (y) : k0_pay17 (F := F) (k0_pay16 a b y) = k0_pay3 a b y := rfl
theorem pay18_eq : (k0_pay18 (F := F)) = k0_pay3 := rfl
theorem pay19_eq : (k0_pay19 (F := F)) = k0_pay3 := rfl
theorem pay25_eq : (k0_pay25 (F := F)) = k0_pay3 := rfl
theorem pay26_eq : (k0_pay26 (F := F)) = k0_pay3 := rfl
theorem pay28_eq (a : Vec F S512x1024 .f32) (b) (y) : k0_pay28 (F := F) (k0_pay27 a b y) = k0_pay3 a b y := rfl
theorem pay7_eq : (k0_pay7 (F := F)) = k0_pay6 := rfl
theorem pay13_eq : (k0_pay13 (F := F)) = k0_pay6 := rfl
theorem pay14_eq : (k0_pay14 (F := F)) = k0_pay6 := rfl
theorem pay20_eq : (k0_pay20 (F := F)) = k0_pay6 := rfl
theorem pay21_eq : (k0_pay21 (F := F)) = k0_pay6 := rfl
theorem pay29_eq : (k0_pay29 (F := F)) = k0_pay6 := rfl
theorem pay23_eq : (k0_pay23 (F := F)) = k0_pay22 := rfl
theorem pay31_eq : (k0_pay31 (F := F)) = k0_pay22 := rfl
theorem pay32_eq : (k0_pay32 (F := F)) = k0_pay22 := rfl
theorem pay33_eq : (k0_pay33 (F := F)) = k0_pay22 := rfl
theorem pay34_eq : (k0_pay34 (F := F)) = k0_pay22 := rfl
theorem pay35_eq : (k0_pay35 (F := F)) = k0_pay22 := rfl
end Pays

end Cert.MeshMatmul
-- ==== Proof.Proto.lean ====
/-
# The protocol between the devices

Every device `c` has three kinds of cells.

* Its barrier cell. Seven units arrive there, one from each other device. The unit that device `pe c u` pays hands `c`
  the slot `u` of that device's receive buffer, the slot `c` is going to fill.
* Its send cells, one per shift `u`. The engine pays when the tile for shift `u` has left; the send slot comes back.
* Its receive cells, one per shift `u`. Device `pe c (bk u)` pays when its tile has landed in `c`'s receive slot `u`; the
  slot comes back holding that tile.

All payments are in round 0 of a cell. A device owes, at the start, one unit to every other barrier cell and one tile's
credit to receive cell `u` of device `pe c u`. It waits on its barrier cell before any send, and on receive cells 0 and 1
before its last send; levels (barrier 1, receive cell `u` at `2 + u`, every other cell 0) show that no waiting is circular.
-/
module

public import proofs.«01_k».proof.Proof.Spec
public import Idealize.ShloMosaic.Lib.Rounds

@[expose] public section

set_option maxRecDepth 16384

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: staging rounds, the devices' rounds, counters for local copies -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The devices' rounds inside the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs -/

abbrev xM : Memref sig .tc .vmem S512x4096 .f32 := Memref.whole cc0_stg0_0
abbrev sxM : Memref sig .tc .smem S1 .f32 := Memref.whole cc0_stg1_0
abbrev swM : Memref sig .tc .smem S1 .f32 := Memref.whole cc0_stg2_0
abbrev oM : Memref sig .tc .vmem S4096x1024 .f32 := Memref.whole cc0_stg3_0
abbrev wM : Memref sig .tc .hbm S4096x8192 .f32 := Memref.whole main_arg1
abbrev vM : Memref sig .tc .vmem S2x1024x2048 .f32 := Memref.whole cc0_scratch0
abbrev yM : Memref sig .tc .vmem S512x2048 .f32 := Memref.whole cc0_scratch1
abbrev sM : Memref sig .tc .vmem S7x512x1024 .bf16 := Memref.whole cc0_scratch2
abbrev rM : Memref sig .tc .vmem S7x512x1024 .bf16 := Memref.whole cc0_scratch3

theorem inb7 (u : Fin 7) : ∀ a, (![u.val, 0, 0] : Fin 3 → Nat) a + S1x512x1024.size a ≤ S7x512x1024.size a := by
  revert u; decide
theorem inbV (s j : Fin 2) : ∀ a, (![s.val, 0, 1024 * j.val] : Fin 3 → Nat) a + S1x1024x1024.size a ≤ S2x1024x2048.size a := by
  revert s j; decide
theorem inbQ (u : Fin 7) : ∀ a, (![u.val + 1] : Fin 1 → Nat) a + S1.size a ≤ S8.size a := by revert u; decide
theorem inbC (s j : Fin 2) : ∀ a, (![s.val, j.val] : Fin 2 → Nat) a + S1x1.size a ≤ S2x2.size a := by revert s j; decide

/-- The rectangle of slot `u`. -/
abbrev slotR (u : Fin 7) : Rect S7x512x1024 := Rect.unit (s := S7x512x1024) ![u.val, 0, 0] S1x512x1024.size (inb7 u)
abbrev sSlot1 (u : Fin 7) : Memref sig .tc .vmem S1x512x1024 .bf16 := sM.slice (slotR u) (fun _ => rfl)
abbrev rSlot1 (u : Fin 7) : Memref sig .tc .vmem S1x512x1024 .bf16 := rM.slice (slotR u) (fun _ => rfl)
/-- Send slot `u` and receive slot `u`. -/
abbrev sSlot (u : Fin 7) : Memref sig .tc .vmem S512x1024 .bf16 := (sSlot1 u).squeeze S512x1024 squeezes_S1x512x1024_S512x1024
abbrev rSlot (u : Fin 7) : Memref sig .tc .vmem S512x1024 .bf16 := (rSlot1 u).squeeze S512x1024 squeezes_S1x512x1024_S512x1024

/-- Half `j` of slot `s` of the buffer for `w`. -/
abbrev halfR (s j : Fin 2) : Rect S2x1024x2048 :=
  Rect.unit (s := S2x1024x2048) ![s.val, 0, 1024 * j.val] S1x1024x1024.size (inbV s j)
abbrev vHalf1 (s j : Fin 2) : Memref sig .tc .vmem S1x1024x1024 .f32 := vM.slice (halfR s j) (fun _ => rfl)
abbrev vHalf (s j : Fin 2) : Memref sig .tc .vmem S1024x1024 .f32 := (vHalf1 s j).squeeze S1024x1024 squeezes_S1x1024x1024_S1024x1024

/-! ## The cells -/

abbrev barS : Sem sig := (SemArray.scalar (sig.barrier 0 rfl) : Sems sig S_).sem
abbrev cpySem (s j : Fin 2) : DmaSem sig :=
  ((cc0_scratch4.slice (Rect.unit (s := S2x2) ![s.val, j.val] S1x1.size (inbC s j)) : DmaSems sig S1x1).squeeze S_ squeezes_S1x1_S_ : DmaSems sig S_).sem
abbrev sndSem (u : Fin 7) : DmaSem sig :=
  ((cc0_scratch5.slice (Rect.unit (s := S8) ![u.val + 1] S1.size (inbQ u)) : DmaSems sig S1).squeeze S_ squeezes_S1_S_ : DmaSems sig S_).sem
abbrev rcvSem (u : Fin 7) : DmaSem sig :=
  ((cc0_scratch6.slice (Rect.unit (s := S8) ![u.val + 1] S1.size (inbQ u)) : DmaSems sig S1).squeeze S_ squeezes_S1_S_ : DmaSems sig S_).sem

theorem cpySem_val (s j : Fin 2) : (cpySem s j).val = 4 + 2 * s.val + j.val := by revert s j; decide
theorem sndSem_val (u : Fin 7) : (sndSem u).val = 9 + u.val := by revert u; decide
theorem rcvSem_val (u : Fin 7) : (rcvSem u).val = 17 + u.val := by revert u; decide

abbrev barCell (c : Dev nD) : GSem nD τ sig := ((c : Thread nD τ), .reg barS)
abbrev sndCell (c : Dev nD) (u : Fin 7) : GSem nD τ sig := ((c : Thread nD τ), .dma (sndSem u))
abbrev rcvCell (c : Dev nD) (u : Fin 7) : GSem nD τ sig := ((c : Thread nD τ), .dma (rcvSem u))

/-- The credit of one tile, and of one copied block of `w`. -/
def NT : ℕ := (rSlot 0).view.dmaCredit
def NW : ℕ := (vHalf 0 0).view.dmaCredit
theorem NT_pos : 0 < NT := View.dmaCredit_pos _ (by decide)
theorem NW_pos : 0 < NW := View.dmaCredit_pos _ (by decide)
theorem rSlot_credit (u : Fin 7) : (rSlot u).view.dmaCredit = NT := rfl
theorem sSlot_credit (u : Fin 7) : (sSlot u).view.dmaCredit = NT := rfl
theorem vHalf_credit (s j : Fin 2) : (vHalf s j).view.dmaCredit = NW := rfl

/-! ## What is handed over -/

/-- Device `c` holds its send slot `u` at contents `f`; its receive slot `u` likewise. -/
def sPts (c : Dev nD) (u : Fin 7) (f : Vec F S7x512x1024 .bf16) : sProp 𝕄 :=
  (sSlot u).view.loc (c : Thread nD τ) ↦[(sSlot u).view.set]{fullShare} f
def rPts (c : Dev nD) (u : Fin 7) (f : Vec F S7x512x1024 .bf16) : sProp 𝕄 :=
  (rSlot u).view.loc (c : Thread nD τ) ↦[(rSlot u).view.set]{fullShare} f

omit [FloatOps F] in
instance sPts_storable (c : Dev nD) (u : Fin 7) (f) : BI.Storable (upEmb : UEmb _ 𝕄) (sPts (F := F) c u f) := by unfold sPts; infer_instance
omit [FloatOps F] in
instance rPts_storable (c : Dev nD) (u : Fin 7) (f) : BI.Storable (upEmb : UEmb _ 𝕄) (rPts (F := F) c u f) := by unfold rPts; infer_instance

def barPay (c : Dev nD) (u : Fin 7) : sProp 𝕄 := iprop((∃ f, rPts (F := F) (pe c u) u f) ∗ reached ER (rcvCell (pe c u) u) 0)
def sndPay (c : Dev nD) (u : Fin 7) : sProp 𝕄 := iprop(∃ f, sPts (F := F) c u f)
def rcvPay (c : Dev nD) (u : Fin 7) : sProp 𝕄 := rPts c u (tBuf (tile m (pe c (bk u)) u))

/-! ## The schedule -/

/-- The shift whose send cell, or receive cell, semaphore number `n` is. -/
def shS (n : ℕ) : Fin 7 := ⟨(n - 9) % 7, Nat.mod_lt _ (by decide)⟩
def shR (n : ℕ) : Fin 7 := ⟨(n - 17) % 7, Nat.mod_lt _ (by decide)⟩
theorem shS_snd (u : Fin 7) : shS (sndSem u).val = u := by rw [sndSem_val]; revert u; decide
theorem shR_rcv (u : Fin 7) : shR (rcvSem u).val = u := by rw [rcvSem_val]; revert u; decide

/-- Which duties a semaphore's cell has in round 0. -/
def dutiesOf : SemLoc sig → Finset (Fin 7)
  | .reg _ => Finset.univ
  | .dma s => if 17 ≤ s.val ∨ (9 ≤ s.val ∧ s.val < 16) then {0} else ∅

def payOf (c : Dev nD) (d : Fin 7) : SemLoc sig → sProp 𝕄
  | .reg _ => barPay c d
  | .dma s => if 17 ≤ s.val then rcvPay m c (shR s.val) else sndPay c (shS s.val)

def amtOf : SemLoc sig → ℕ
  | .reg _ => 1
  | .dma _ => NT

def rd : Rounds.Schedule (GSem nD τ sig) (Fin 7) 𝕄 where
  duties g r := if r = 0 ∧ g.1.2 = .tc then dutiesOf g.2 else ∅
  unitless _ := False
  amount g _ _ := amtOf g.2
  payload g _ d := payOf m g.1.1 d g.2
  amount_pos g _ _ _ := by
    cases g.2 with
    | reg s => exact Nat.one_pos
    | dma s => exact NT_pos

instance rd_payload_storable (g : GSem nD τ sig) (r : ℕ) (d : Fin 7) : BI.Storable (upEmb : UEmb _ 𝕄) ((rd (F := F) m).payload g r d) := by
  show BI.Storable upEmb (payOf m g.1.1 d g.2)
  unfold payOf barPay rcvPay sndPay
  (repeat' split) <;> infer_instance

section Sched
variable (c : Dev nD) (u : Fin 7)

theorem duties_bar : (rd (F := F) m).duties (barCell c) 0 = Finset.univ := by dsimp only [rd]; rw [if_pos ⟨rfl, rfl⟩]; rfl
theorem duties_snd : (rd (F := F) m).duties (sndCell c u) 0 = {0} := by
  dsimp only [rd]; rw [if_pos ⟨rfl, rfl⟩]; dsimp only [dutiesOf]
  rw [sndSem_val, if_pos]; right; exact ⟨by omega, by omega⟩
theorem duties_rcv : (rd (F := F) m).duties (rcvCell c u) 0 = {0} := by
  dsimp only [rd]; rw [if_pos ⟨rfl, rfl⟩]; dsimp only [dutiesOf]
  rw [rcvSem_val, if_pos]; left; omega
theorem duties_later (g : GSem nD τ sig) : ∀ r, 1 ≤ r → (rd (F := F) m).duties g r = ∅ :=
  fun r hr => by dsimp only [rd]; rw [if_neg fun h => by omega]

theorem amount_bar (d : Fin 7) : (rd (F := F) m).amount (barCell c) 0 d = 1 := rfl
theorem amount_snd (d : Fin 7) : (rd (F := F) m).amount (sndCell c u) 0 d = NT := rfl
theorem amount_rcv (d : Fin 7) : (rd (F := F) m).amount (rcvCell c u) 0 d = NT := rfl

theorem expect_bar : (rd (F := F) m).expect (barCell c) 0 = 7 := by
  unfold Schedule.expect Schedule.amountOf
  rw [duties_bar, Finset.sum_congr rfl fun d _ => amount_bar m c d]; rfl
theorem expect_snd : (rd (F := F) m).expect (sndCell c u) 0 = NT := by
  unfold Schedule.expect Schedule.amountOf; rw [duties_snd, Finset.sum_singleton, amount_snd]
theorem expect_rcv : (rd (F := F) m).expect (rcvCell c u) 0 = NT := by
  unfold Schedule.expect Schedule.amountOf; rw [duties_rcv, Finset.sum_singleton, amount_rcv]

theorem payload_bar (d : Fin 7) : (rd (F := F) m).payload (barCell c) 0 d = barPay c d := rfl
theorem payload_snd (d : Fin 7) : (rd (F := F) m).payload (sndCell c u) 0 d = sndPay c u := by
  dsimp only [rd, payOf]; rw [shS_snd, if_neg]; rw [sndSem_val]; omega
theorem payload_rcv (d : Fin 7) : (rd (F := F) m).payload (rcvCell c u) 0 d = rcvPay m c u := by
  dsimp only [rd, payOf]; rw [shR_rcv, if_pos]; rw [rcvSem_val]; omega

theorem rest_bar : bigSep ((rd (F := F) m).duties (barCell c) 0 \ ∅) (fun d => (rd (F := F) m).payload (barCell c) 0 d)
    = iprop(barPay (F := F) c 0 ∗ barPay c 1 ∗ barPay c 2 ∗ barPay c 3 ∗ barPay c 4 ∗ barPay c 5 ∗ barPay c 6) := by
  rw [Finset.sdiff_empty, duties_bar, bigSep_univ_eq_bigSepL [0, 1, 2, 3, 4, 5, 6] (by decide) (by decide)]
  simp only [bigSepL_cons_cons, bigSepL_singleton]; rfl
theorem rest_snd : bigSep ((rd (F := F) m).duties (sndCell c u) 0 \ ∅) (fun d => (rd (F := F) m).payload (sndCell c u) 0 d) = sndPay c u := by
  rw [Finset.sdiff_empty, duties_snd, bigSep_singleton, payload_snd]
theorem rest_rcv : bigSep ((rd (F := F) m).duties (rcvCell c u) 0 \ ∅) (fun d => (rd (F := F) m).payload (rcvCell c u) 0 d) = rcvPay m c u := by
  rw [Finset.sdiff_empty, duties_rcv, bigSep_singleton, payload_rcv]

end Sched

/-! ## What a device owes, and the levels -/

/-- The shifts from `k` on. -/
def from_ (k : ℕ) : Finset (Fin 7) := Finset.univ.filter fun u => k ≤ u.val

theorem from_step (u : Fin 7) : from_ u.val = insert u (from_ (u.val + 1)) := by revert u; decide
theorem not_mem_from (u : Fin 7) : u ∉ from_ (u.val + 1) := by revert u; decide

/-- The tile credits owed from shift `k` on, and before that the barrier units owed from shift `k` on. -/
def OR (c : Dev nD) (k : ℕ) : CellTallies nD τ sig Unit := ∑ u ∈ from_ k, tallyAt (rcvCell (pe c u) u) () NT
def OB (c : Dev nD) (k : ℕ) : CellTallies nD τ sig Unit := OR c 0 + ∑ u ∈ from_ k, tallyAt (barCell (pe c u)) () 1
abbrev O₀ (c : Dev nD) : CellTallies nD τ sig Unit := OB c 0

theorem OR_step (c : Dev nD) (u : Fin 7) : OR c u.val = OR c (u.val + 1) + tallyAt (rcvCell (pe c u) u) () NT := by
  unfold OR; rw [from_step, Finset.sum_insert (not_mem_from u), add_comm]
theorem OB_step (c : Dev nD) (u : Fin 7) : OB c u.val = OB c (u.val + 1) + tallyAt (barCell (pe c u)) () 1 := by
  unfold OB; rw [from_step, Finset.sum_insert (not_mem_from u), add_comm (tallyAt _ _ _), add_assoc]
theorem OR_end (c : Dev nD) : OR c 7 = 0 := by
  unfold OR; rw [show from_ 7 = ∅ by decide, Finset.sum_empty]
theorem OB_end (c : Dev nD) : OB c 7 = OR c 0 := by
  unfold OB; rw [show from_ 7 = ∅ by decide, Finset.sum_empty, add_zero]

def L (g : GSem nD τ sig) : Finset Unit := if g.1.2 = .tc then {()} else ∅
def lvOf : SemLoc sig → ℕ
  | .reg _ => 1
  | .dma s => if 17 ≤ s.val then s.val - 15 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lvOf_rcv (u : Fin 7) : lvOf (.dma (rcvSem u)) = 2 + u.val := by
  show (if 17 ≤ (rcvSem u).val then (rcvSem u).val - 15 else 0) = _
  rw [rcvSem_val, if_pos (by omega)]; omega

theorem sum_pos_at {ι : Type} (S : Finset ι) (f : ι → CellTallies nD τ sig Unit) {g : GSem nD τ sig} {v : Unit}
    (h : 0 < (∑ i ∈ S, f i) g v) : ∃ i ∈ S, 0 < f i g v := by
  rw [Finset.sum_apply, Finsupp.finset_sum_apply] at h
  by_contra hn
  push Not at hn
  rw [Finset.sum_eq_zero fun i hi => Nat.le_zero.mp (hn i hi)] at h
  exact Nat.lt_irrefl 0 h

theorem tally_pos {g g' : GSem nD τ sig} {n : ℕ} {v : Unit} (h : 0 < tallyAt g' () n g v) : g = g' := by
  rw [tallyAt_apply] at h
  by_contra hn
  rw [if_neg (fun h' => hn h'.1)] at h
  exact Nat.lt_irrefl 0 h

theorem OR_pos {c : Dev nD} {k : ℕ} {g : GSem nD τ sig} {v : Unit} (h : 0 < OR c k g v) :
    ∃ u : Fin 7, k ≤ u.val ∧ g = rcvCell (pe c u) u := by
  obtain ⟨u, hu, hp⟩ := sum_pos_at _ _ h
  exact ⟨u, (Finset.mem_filter.mp hu).2, tally_pos hp⟩

theorem OB_pos {c : Dev nD} {k : ℕ} {g : GSem nD τ sig} {v : Unit} (h : 0 < OB c k g v) :
    ∃ u : Fin 7, g = rcvCell (pe c u) u ∨ g = barCell (pe c u) := by
  unfold OB at h
  rw [Pi.add_apply, Finsupp.add_apply] at h
  rcases Nat.eq_zero_or_pos (OR c 0 g v) with h0 | h0
  · rw [h0, zero_add] at h
    obtain ⟨u, -, hp⟩ := sum_pos_at _ _ h
    exact ⟨u, .inr (tally_pos hp)⟩
  · obtain ⟨u, -, hp⟩ := OR_pos h0
    exact ⟨u, .inl hp⟩

/-- A wait on a cell of level below `2 + k`, owing tiles from shift `k` on, is not circular. -/
theorem mayWait_OR (c : Dev nD) (sm : SemLoc sig) (k : ℕ) (h : lvOf sm < 2 + k) :
    (levAts L lv : sProp 𝕄) ⊢ MayWait (c : Thread nD τ) sm () (OR c k) :=
  MayOwe.of_cut (L := L) (lev := lv) (1 + k) (fun p hp => by rw [Finset.mem_singleton.mp hp, L_tc]; exact Finset.mem_singleton_self _)
    (fun g v hg => by obtain ⟨u, -, rfl⟩ := OR_pos hg; exact Finset.mem_singleton_self _)
    (fun p hp => by rw [Finset.mem_singleton.mp hp]; dsimp only [lv]; omega)
    (fun g v hg => by obtain ⟨u, hu, rfl⟩ := OR_pos hg; dsimp only [lv]; rw [lvOf_rcv]; omega)

/-- A wait on a cell of level 0 (a staging cell) owing everything, or nothing, is not circular. -/
theorem mayWait_stage (c : Dev nD) (q : DmaSem sig) (hq : lvOf (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g v hg => by obtain ⟨u, rfl | rfl⟩ := OB_pos hg <;> exact Finset.mem_singleton_self _)
      (fun p hp => by rw [Finset.mem_singleton.mp hp]; dsimp only [lv]; omega)
      (fun g v hg => by
        obtain ⟨u, rfl | rfl⟩ := OB_pos hg
        · dsimp only [lv]; rw [lvOf_rcv]; omega
        · dsimp only [lv, lvOf]; decide)
  · rw [MayWait_zero]; iintro -; iempintro

end Cert.MeshMatmul
-- ==== Proof.Vals.lean ====
/-
# What the loads read and what the stores and copies leave

Each load, store and landed copy of the kernel compared, element by element, with the contents of `Spec`.
-/
module

public import proofs.«01_k».proof.Proof.Proto

@[expose] public section

set_option maxRecDepth 16384

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

theorem hz2 : (![0, 0] : Fin 2 → Nat) = fun _ => 0 := funext fun a => by fin_cases a <;> rfl

/-! ## Tile slots -/

/-- Where element `x` of a slot lies: slot `u`, row `x 0`, column `x 1`. -/
theorem slot_emb (u : Fin 7) (x : S512x1024.Idx) :
    (rSlot u).view.emb x = at3 7 512 1024 (by decide) (by decide) (by decide) u.val (x 0).val (x 1).val := by
  have h : (rSlot u).view.emb x = (slotR u).emb (Fin.cons ⟨0, Nat.one_pos⟩ x) :=
    congrArg (slotR u).emb (Shape.reshapeEquiv_cons_one (d := ![512, 1024]) _ x)
  rw [h]
  have h0 : (x 0).val < 512 := (x 0).isLt
  have h1 : (x 1).val < 1024 := (x 1).isLt
  refine idx3_ext ?_ ?_ ?_
  · show u.val + 1 * 0 = u.val % 7; omega
  · show 0 + 1 * (x 0).val = (x 0).val % 512; omega
  · show 0 + 1 * (x 1).val = (x 1).val % 1024; omega

theorem sSlot_emb (u : Fin 7) (x : S512x1024.Idx) : ((sSlot u).view.emb x : S7x512x1024.Idx) = (rSlot u).view.emb x := rfl

/-- A tile that has landed in receive slot `u` is that tile. -/
theorem land_tile (u : Fin 7) (T : FVec F S1x512x1024 .bf16) (fd : Vec F S7x512x1024 .bf16) :
    ∀ i ∈ (rSlot u).view.set, (rSlot u).view.write (Elt F) fd ((sSlot u).view.read (Elt F) (tBuf T)) Finset.univ i = tBuf T i := by
  intro i hi
  obtain ⟨x, -, rfl⟩ := Finset.mem_map.mp hi
  rw [View.write_emb_of_mem _ _ (Finset.mem_univ x)]
  rfl

/-- The access a store or load makes to a slot covers the slot. -/
theorem slot_set (u : Fin 7) : ((rM.access (slotR u)).set : Finset S7x512x1024.Idx) = (rSlot u).view.set := (View.set_reshape _ _).symm
theorem sslot_set (u : Fin 7) : ((sM.access (slotR u)).set : Finset S7x512x1024.Idx) = (sSlot u).view.set := (View.set_reshape _ _).symm

/-- Reading slot `u` of a buffer that holds a tile gives the tile. -/
theorem load_tile (u : Fin 7) (T : FVec F S1x512x1024 .bf16) : (rM.access (slotR u)).read (Elt F) (tBuf T) = T := by
  funext x
  show T _ = T _
  congr 1
  have h0 : (x 0).val < 1 := (x 0).isLt
  have h1 : (x 1).val < 512 := (x 1).isLt
  have h2 : (x 2).val < 1024 := (x 2).isLt
  refine idx3_ext ?_ ?_ ?_
  · show 0 % 1 = (x 0).val; omega
  · show (0 + 1 * (x 1).val) % 512 = (x 1).val; omega
  · show (0 + 1 * (x 2).val) % 1024 = (x 2).val; omega

/-- A tile stored in send slot `u` is that tile. -/
theorem store_tile (u : Fin 7) (T : FVec F S1x512x1024 .bf16) (f : Vec F S7x512x1024 .bf16) :
    ∀ i ∈ (sSlot u).view.set, (sM.access (slotR u)).write (Elt F) f T Finset.univ i = tBuf T i := by
  intro i hi
  rw [← sslot_set] at hi
  obtain ⟨y, -, rfl⟩ := Finset.mem_map.mp hi
  rw [View.write_emb_of_mem _ _ (Finset.mem_univ y)]
  exact (congrFun (load_tile u T) y).symm

/-! ## The buffer for `w` -/

/-- The block of `w` a copy reads. -/
abbrev wSrc (off : Fin 2 → ℕ) (inb : ∀ a, off a + S1024x1024.size a ≤ S4096x8192.size a) : Memref sig .tc .hbm S1024x1024 .f32 :=
  wM.slice (Rect.unit (s := S4096x8192) off S1024x1024.size inb) (fun _ => rfl)

/-- A block of `w` that has landed in half `j` of slot `s` is what step `k` of pair `p` needs there. -/
theorem land_w (c : Dev nD) (p k : ℕ) (s j : Fin 2) (hk : k < 4) (off : Fin 2 → ℕ) (inb)
    (hoff : off = ![1024 * k, 1024 * ((c.val + 2 * p + j.val + 1) % 8)]) (fd : Vec F S2x1024x2048 .f32) :
    ∀ i ∈ (vHalf s j).view.set,
      (vHalf s j).view.write (Elt F) fd ((wSrc off inb).view.read (Elt F) (wC m c)) Finset.univ i = wBuf m c p k i := by
  subst hoff
  intro i hi
  obtain ⟨x, -, rfl⟩ := Finset.mem_map.mp hi
  rw [View.write_emb_of_mem _ _ (Finset.mem_univ x)]
  have h : (vHalf s j).view.emb x = (halfR s j).emb (Fin.cons ⟨0, Nat.one_pos⟩ x) :=
    congrArg (halfR s j).emb (Shape.reshapeEquiv_cons_one (d := ![1024, 1024]) _ x)
  rw [h]
  show wC m c _ = wC m c _
  congr 1
  have h0 : (x 0).val < 1024 := (x 0).isLt
  have h1 : (x 1).val < 1024 := (x 1).isLt
  have hj := j.isLt
  have hd : (1024 * j.val + (x 1).val) / 1024 = j.val := by omega
  have hm : (1024 * j.val + (x 1).val) % 1024 = (x 1).val := by omega
  refine idx2_ext ?_ ?_
  · show 1024 * k + 1 * (x 0).val = (1024 * k + (0 + 1 * (x 0).val)) % 4096; omega
  · show 1024 * ((c.val + 2 * p + j.val + 1) % 8) + 1 * (x 1).val
      = (1024 * ((c.val + 2 * p + (1024 * j.val + 1 * (x 1).val) / 1024 + 1) % 8) + (1024 * j.val + 1 * (x 1).val) % 1024) % 8192
    rw [Nat.one_mul, hd, hm]; omega

/-- A slot of the buffer for `w` as one rectangle. -/
theorem inbW (s : Fin 2) : ∀ a, (![s.val, 0, 0] : Fin 3 → Nat) a + S1x1024x2048.size a ≤ S2x1024x2048.size a := by revert s; decide
abbrev fullR (s : Fin 2) : Rect S2x1024x2048 := Rect.unit (s := S2x1024x2048) ![s.val, 0, 0] S1x1024x2048.size (inbW s)

theorem mem_half {s j : Fin 2} {i : S2x1024x2048.Idx} :
    i ∈ (vHalf s j).view.set ↔ (i 0).val = s.val ∧ 1024 * j.val ≤ (i 2).val ∧ (i 2).val < 1024 * j.val + 1024 := by
  have h : (vHalf s j).view.set = (halfR s j).set :=
    (View.set_reshape _ _).trans (View.set_slice_whole cc0_scratch0 (halfR s j))
  have h1 : (i 1).val < 1024 := (i 1).isLt
  rw [h, Rect.mem_set_unit]
  constructor
  · intro H
    have H0 := H 0
    have H2 := H 2
    have h0 : s.val ≤ (i 0).val ∧ (i 0).val < s.val + 1 := H0
    have h2 : 1024 * j.val ≤ (i 2).val ∧ (i 2).val < 1024 * j.val + 1024 := H2
    exact ⟨by omega, h2⟩
  · rintro ⟨H0, H2⟩ a
    match a with
    | ⟨0, _⟩ => exact (⟨by omega, by omega⟩ : s.val ≤ (i 0).val ∧ (i 0).val < s.val + 1)
    | ⟨1, _⟩ => exact (⟨by omega, by omega⟩ : 0 ≤ (i 1).val ∧ (i 1).val < 0 + 1024)
    | ⟨2, _⟩ => exact H2

theorem halves_disjoint (s : Fin 2) : Disjoint (vHalf s 0).view.set (vHalf s 1).view.set :=
  Finset.disjoint_left.mpr fun i h0 h1 => by
    have h0 := (mem_half.mp h0).2.2
    have h1 := (mem_half.mp h1).2.1
    rw [show (1024 * (0 : Fin 2).val + 1024) = 1024 from rfl] at h0
    rw [show (1024 * (1 : Fin 2).val) = 1024 from rfl] at h1
    omega

theorem full_subset (s : Fin 2) : ((vM.access (fullR s)).set : Finset S2x1024x2048.Idx) ⊆ (vHalf s 0).view.set ∪ (vHalf s 1).view.set := by
  intro i hi
  have h : (vM.access (fullR s)).set = (fullR s).set := View.set_slice_whole cc0_scratch0 (fullR s)
  rw [h, Rect.mem_set_unit] at hi
  have H0 : s.val ≤ (i 0).val ∧ (i 0).val < s.val + 1 := hi 0
  have H2 : (i 2).val < 2048 := (i 2).isLt
  rw [Finset.mem_union, mem_half, mem_half]
  rw [show (1024 * (0 : Fin 2).val) = 0 from rfl, show (1024 * (1 : Fin 2).val) = 1024 from rfl]
  omega

/-- The load of slot `s`. -/
theorem load_w (c : Dev nD) (p k : ℕ) (s : Fin 2) : (vM.access (fullR s)).read (Elt F) (wBuf m c p k) = wBlk m c p k := by
  funext x
  show wAt m c p k (0 + 1 * (x 1).val) (0 + 1 * (x 2).val) = wAt m c p k (x 1).val (x 2).val
  rw [Nat.one_mul, Nat.one_mul, Nat.zero_add, Nat.zero_add]

/-! ## `x`, the accumulator, the scales -/

theorem load_x (c : Dev nD) (k : ℕ) (hk : k < 4) (off : Fin 2 → ℕ) (inb) (hoff : off = ![0, 1024 * k]) :
    (xM.access (Rect.unit (s := S512x4096) off S512x1024.size inb)).read (Elt F) (xC m c) = xBlk m c k := by
  subst hoff
  funext x
  show xC m c _ = xC m c _
  congr 1
  have h0 : (x 0).val < 512 := (x 0).isLt
  have h1 : (x 1).val < 1024 := (x 1).isLt
  refine idx2_ext ?_ ?_
  · show 0 + 1 * (x 0).val = (x 0).val % 512; omega
  · show 1024 * k + 1 * (x 1).val = (1024 * k + (x 1).val) % 4096; omega

theorem load_half (j : ℕ) (hj : j < 2) (Y : Vec F S512x2048 .f32) (off : Fin 2 → ℕ) (inb) (hoff : off = ![0, 1024 * j]) :
    (yM.access (Rect.unit (s := S512x2048) off S512x1024.size inb)).read (Elt F) Y = half j Y := by
  subst hoff
  funext x
  show Y _ = Y _
  congr 1
  have h0 : (x 0).val < 512 := (x 0).isLt
  have h1 : (x 1).val < 1024 := (x 1).isLt
  refine idx2_ext ?_ ?_
  · show 0 + 1 * (x 0).val = (x 0).val % 512; omega
  · show 1024 * j + 1 * (x 1).val = (1024 * j + (x 1).val) % 2048; omega

theorem read_y (Y : Vec F S512x2048 .f32) (inb) :
    (yM.access (Rect.unit (s := S512x2048) ![0, 0] S512x2048.size inb)).read (Elt F) Y = Y :=
  Memref.read_access_unit_zero (Elt F) cc0_scratch1 hz2 inb Y
theorem write_y (Y Z : Vec F S512x2048 .f32) (inb) :
    (yM.access (Rect.unit (s := S512x2048) ![0, 0] S512x2048.size inb)).write (Elt F) Y Z Finset.univ = Z :=
  Memref.write_access_unit_zero_univ (Elt F) cc0_scratch1 hz2 inb Y Z

/-! ## The result buffer -/

/-- The rows of the devices in `S` hold the result. -/
def Done (c : Dev nD) (S : Finset (Dev nD)) (f : Vec F S4096x1024 .f32) : Prop :=
  ∀ i : S4096x1024.Idx, (⟨(i 0).val / 512, by have h : (i 0).val < 4096 := (i 0).isLt; show _ < 8; omega⟩ : Dev nD) ∈ S → f i = outC m c i

theorem outC_own (c : Dev nD) (x : S512x1024.Idx) (i : S4096x1024.Idx) (h0 : (i 0).val = 512 * c.val + (x 0).val) (h1 : (i 1).val = (x 1).val) :
    outC m c i = own m c x := by
  have hx0 : (x 0).val < 512 := (x 0).isLt
  have hx1 : (x 1).val < 1024 := (x 1).isLt
  unfold outC
  rw [dif_pos (by omega)]
  congr 1
  refine idx2_ext ?_ ?_
  · show (i 0).val % 512 % 512 = _; omega
  · show (i 1).val % 1024 = _; omega

theorem peer_row (c : Dev nD) (u : Fin 7) : (pe c (bk u)).val ≠ c.val ∧ (c.val + 7 - (pe c (bk u)).val) % 8 % 7 = u.val := by
  revert c u; decide

theorem outC_got (c : Dev nD) (u : Fin 7) (x : S512x1024.Idx) (i : S4096x1024.Idx) (h0 : (i 0).val = 512 * (pe c (bk u)).val + (x 0).val)
    (h1 : (i 1).val = (x 1).val) : outC m c i = got m c u x := by
  have hx0 : (x 0).val < 512 := (x 0).isLt
  have hx1 : (x 1).val < 1024 := (x 1).isLt
  obtain ⟨hn, hu⟩ := peer_row c u
  have hd : (i 0).val / 512 = (pe c (bk u)).val := by omega
  unfold outC
  rw [dif_neg (by omega)]
  have hu' : (⟨(c.val + 7 - (i 0).val / 512) % 8 % 7, Nat.mod_lt _ (by decide)⟩ : Fin 7) = u := Fin.ext (by rw [hd]; exact hu)
  rw [hu']
  congr 1
  refine idx2_ext ?_ ?_
  · show (i 0).val % 512 % 512 = _; omega
  · show (i 1).val % 1024 = _; omega

/-- Storing the right tile in the rows of device `o` adds `o` to the devices whose rows are done. -/
theorem done_store (c o : Dev nD) (S : Finset (Dev nD)) (f : Vec F S4096x1024 .f32) (hf : Done m c S f) (T : FVec F S512x1024 .f32)
    (hT : ∀ (x : S512x1024.Idx) (i : S4096x1024.Idx), (i 0).val = 512 * o.val + (x 0).val → (i 1).val = (x 1).val → outC m c i = T x)
    (off : Fin 2 → ℕ) (inb) (hoff : off = ![512 * o.val, 0]) :
    Done m c (insert o S) ((oM.access (Rect.unit (s := S4096x1024) off S512x1024.size inb)).write (Elt F) f T Finset.univ) := by
  subst hoff
  intro i hi
  have hi0 : (i 0).val < 4096 := (i 0).isLt
  have hi1 : (i 1).val < 1024 := (i 1).isLt
  by_cases ho : (i 0).val / 512 = o.val
  · let x : S512x1024.Idx := ixT ((i 0).val % 512) (i 1).val
    have hx : (oM.access (Rect.unit (s := S4096x1024) ![512 * o.val, 0] S512x1024.size inb)).emb x = i := by
      refine idx2_ext ?_ ?_
      · show 512 * o.val + 1 * ((i 0).val % 512 % 512) = (i 0).val; omega
      · show 0 + 1 * ((i 1).val % 1024) = (i 1).val; omega
    have hv := View.write_emb_of_mem (v := oM.access (Rect.unit (s := S4096x1024) ![512 * o.val, 0] S512x1024.size inb)) (Val := Elt F) f T
      (Finset.mem_univ x)
    rw [hx] at hv
    refine hv.trans ?_
    refine (hT x i ?_ ?_).symm
    · show (i 0).val = 512 * o.val + (i 0).val % 512 % 512; omega
    · show (i 1).val = (i 1).val % 1024; omega
  · rw [View.write_of_not_mem]
    · exact hf i ((Finset.mem_insert.mp hi).resolve_left fun h => ho (congrArg Fin.val h))
    · intro hm
      obtain ⟨x, -, hx⟩ := Finset.mem_map.mp hm
      have hx0 : (x 0).val < 512 := (x 0).isLt
      have h := congrArg (fun i : S4096x1024.Idx => (i 0).val) hx
      have h' : 512 * o.val + 1 * (x 0).val = (i 0).val := h
      omega

theorem done_all (c : Dev nD) (S : Finset (Dev nD)) (hS : ∀ o, o ∈ S) (f : Vec F S4096x1024 .f32) (hf : Done m c S f) : f = outC m c :=
  funext fun i => hf i (hS _)

end Cert.MeshMatmul
-- ==== Proof.Steps.lean ====
/-
# The kernel's steps, one lemma each

Every lemma takes a piece of program with a continuation, what the piece needs, and what the continuation is given.
`ctx` holds what every device may use at any time: all cells' invariants, that all cells have reached round 0, and the levels.
-/
module

public import proofs.«01_k».proof.Proof.Vals

@[expose] public section

set_option maxRecDepth 16384

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

section State
variable (m : (ℓ : Loc nD τ sig) → Buf (Elt F) ℓ)

abbrev 𝒱₀ : Variants := Variants.none

/-- Device `c` runs `p` to `Q`. -/
abbrev run (α : Type) (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells of a device, numbered -/

abbrev kB : Fin 15 := 0
abbrev kS (u : Fin 7) : Fin 15 := ⟨1 + u.val, by omega⟩
abbrev kR (u : Fin 7) : Fin 15 := ⟨8 + u.val, by omega⟩

def csem (k : Fin 15) : SemLoc sig :=
  if k.val = 0 then .reg barS else if h : k.val < 8 then .dma (sndSem ⟨k.val - 1, by omega⟩) else .dma (rcvSem ⟨k.val - 8, by omega⟩)
abbrev kcell (p : Dev nD × Fin 15) : GSem nD τ sig := ((p.1 : Thread nD τ), csem p.2)

theorem kcell_B (c : Dev nD) : kcell (c, kB) = barCell c := rfl
theorem csem_S (u : Fin 7) : csem (kS u) = .dma (sndSem u) := by revert u; decide
theorem csem_R (u : Fin 7) : csem (kR u) = .dma (rcvSem u) := by revert u; decide
theorem kcell_S (c : Dev nD) (u : Fin 7) : kcell (c, kS u) = sndCell c u := by unfold kcell; rw [csem_S]
theorem kcell_R (c : Dev nD) (u : Fin 7) : kcell (c, kR u) = rcvCell c u := by unfold kcell; rw [csem_R]

variable (K : Dev nD × Fin 15 → ℕ)

/-- All cells' invariants; all cells are at least at round 0; the levels. -/
def ctx : sProp 𝕄 :=
  iprop((bigSep Finset.univ fun p => cellInv ER (rd m) (K p) (kcell p)) ∗ (bigSep Finset.univ fun p : Dev nD × Fin 15 => reached ER (kcell p) 0)
    ∗ levAts L lv)

instance ctx_persistent : BI.Persistent (ctx m K) := by unfold ctx; infer_instance

theorem inv_of (p : Dev nD × Fin 15) :
    (bigSep Finset.univ fun p => cellInv ER (rd m) (K p) (kcell p) : sProp 𝕄) ⊢ cellInv ER (rd m) (K p) (kcell p) :=
  bigSep_elim (Finset.mem_univ p)
theorem reached_of (p : Dev nD × Fin 15) :
    (bigSep Finset.univ fun p : Dev nD × Fin 15 => reached ER (kcell p) 0 : sProp 𝕄) ⊢ reached ER (kcell p) 0 :=
  bigSep_elim (Finset.mem_univ p)

theorem ctx_inv (p : Dev nD × Fin 15) : ctx m K ⊢ cellInv ER (rd m) (K p) (kcell p) := by
  unfold ctx; iintro ⟨H, -, -⟩; iapply (inv_of m K p); iexact H
theorem ctx_invB (c : Dev nD) : ctx m K ⊢ cellInv ER (rd m) (K (c, kB)) (barCell c) := ctx_inv m K (c, kB)
theorem ctx_invS (c : Dev nD) (u : Fin 7) : ctx m K ⊢ cellInv ER (rd m) (K (c, kS u)) (sndCell c u) := kcell_S c u ▸ ctx_inv m K (c, kS u)
theorem ctx_invR (c : Dev nD) (u : Fin 7) : ctx m K ⊢ cellInv ER (rd m) (K (c, kR u)) (rcvCell c u) := kcell_R c u ▸ ctx_inv m K (c, kR u)
theorem ctx_reached (p : Dev nD × Fin 15) : ctx m K ⊢ reached ER (kcell p) 0 := by
  unfold ctx; iintro ⟨-, H, -⟩; iapply (reached_of p); iexact H
theorem ctx_reachedB (c : Dev nD) : ctx m K ⊢ reached ER (barCell c) 0 := ctx_reached m K (c, kB)
theorem ctx_reachedS (c : Dev nD) (u : Fin 7) : ctx m K ⊢ reached ER (sndCell c u) 0 := kcell_S c u ▸ ctx_reached m K (c, kS u)
theorem ctx_reachedR (c : Dev nD) (u : Fin 7) : ctx m K ⊢ reached ER (rcvCell c u) 0 := kcell_R c u ▸ ctx_reached m K (c, kR u)
theorem ctx_mayWait (c : Dev nD) (sm : SemLoc sig) (k : ℕ) (h : lvOf sm < 2 + k) :
    ctx m K ⊢ MayWait (c : Thread nD τ) sm () (OR c k) := by
  unfold ctx; iintro ⟨-, -, H⟩; iapply (mayWait_OR c sm k h); iexact H

/-! ## What a device holds -/

/-- What device `c` still owes, whatever waits it has recorded. -/
def ow (c : Dev nD) (O : CellTallies nD τ sig Unit) : sProp 𝕄 := iprop(∃ W, owes (c : Thread nD τ) O W)

def xP (c : Dev nD) : sProp 𝕄 := xM.view.loc (c : Thread nD τ) ↦{fullShare} xC m c
def yP (c : Dev nD) (Y : Vec F S512x2048 .f32) : sProp 𝕄 := yM.view.loc (c : Thread nD τ) ↦{fullShare} Y
/-- The result buffer, the rows of the devices in `S` done. -/
def oP (c : Dev nD) (S : Finset (Dev nD)) : sProp 𝕄 :=
  iprop(∃ f : Vec F S4096x1024 .f32, ⌜Done m c S f⌝ ∗ (oM.view.loc (c : Thread nD τ) ↦{fullShare} f))
/-- A share of `w`. -/
def wP (c : Dev nD) (q : PosShare TreeShare) : sProp 𝕄 := wM.view.loc (c : Thread nD τ) ↦{q} wC m c
/-- Half `j` of slot `s` at contents `f`. -/
def vP (c : Dev nD) (s j : Fin 2) (f : Vec F S2x1024x2048 .f32) : sProp 𝕄 :=
  (vHalf s j).view.loc (c : Thread nD τ) ↦[(vHalf s j).view.set]{fullShare} f

/-- The half is free: its contents do not matter, no copy into it is under way. -/
def Idle (c : Dev nD) (s j : Fin 2) (q : PosShare TreeShare) : sProp 𝕄 :=
  iprop((∃ f, vP c s j f) ∗ semVal ((c : Thread nD τ), .dma (cpySem s j)) 0 ∗ wP m c q)
/-- The block for step `k` of pair `p` is on its way into the half. -/
def Fly (c : Dev nD) (s j : Fin 2) (q : PosShare TreeShare) (p k : ℕ) : sProp 𝕄 :=
  iprop(∃ D : sProp 𝕄, Flight EC (c : Thread nD τ) (.dma (cpySem s j)) () NW D ∗ (D -∗ vP c s j (wBuf m c p k) ∗ wP m c q))
/-- The block is there. -/
def Rdy (c : Dev nD) (s j : Fin 2) (q : PosShare TreeShare) (p k : ℕ) : sProp 𝕄 :=
  iprop(vP c s j (wBuf m c p k) ∗ semVal ((c : Thread nD τ), .dma (cpySem s j)) 0 ∗ wP m c q)

theorem rdy_idle (c : Dev nD) (s j : Fin 2) (q : PosShare TreeShare) (p k : ℕ) : Rdy m c s j q p k ⊢ Idle m c s j q := by
  unfold Rdy Idle
  iintro ⟨Hv, Hs, Hw⟩
  isplitl [Hv]
  · iexists _; iexact Hv
  isplitl [Hs] <;> iassumption

end State

variable {m : (ℓ : Loc nD τ sig) → Buf (Elt F) ℓ} {K : Dev nD × Fin 15 → ℕ} {α : Type} {Q : α → sProp (MT nD τ sig Unit (Elt F) ℕ UU ℕ)}

/-! ## Copies of `w` -/

/-- Start the copy of a block of `w` into half `j` of slot `s`. -/
theorem step_start (c : Dev nD) (s j : Fin 2) (q : PosShare TreeShare) (p k : ℕ) (hk : k < 4) {off : Fin 2 → ℕ} {inb}
    (hoff : off = ![1024 * k, 1024 * ((c.val + 2 * p + j.val + 1) % 8)])
    {hs : (wSrc off inb).view.WordExact} {hd : (vHalf s j).view.WordExact}
    {ht : DmaTarget.Typed (nD := nD) (p := (.tc : Proc τ)) .hbm (.dma (cpySem s j)) (.here (vHalf s j))} {kk : PUnit.{1} → Prog (TpuEff nD τ sig (Elt F) Λ₀ .tc) α} :
    Idle m c s j q ⊢ iprop((Fly m c s j q p k -∗ run α c (kk ⟨⟩) Q)
      -∗ run α c (.op (.enqueueDma (wSrc off inb) (.here (vHalf s j)) (.dma (cpySem s j)) hs hd ht) kk) Q) := by
  unfold Idle wP
  iintro ⟨⟨%f, Hv⟩, Hs, Hw⟩ Hk
  unfold vP
  ihave Hw' := ((pointsTo_split_subset (Finset.subset_univ (wSrc off inb).view.set)).1) $$ Hw
  icases Hw' with ⟨Hw1, Hw2⟩
  iapply (wp_dmaLocal EC 𝒱₀ (c : Thread nD τ) none () NW (src := wSrc off inb) (dst := vHalf s j) rfl NW_pos (Finset.Subset.refl _)) $$ [Hw1 Hv Hs]
  · isplitl [Hw1]; · iexact Hw1
    isplitl [Hv]; · iexact Hv
    iexact Hs
  iintro HF
  iapply Hk
  unfold Fly
  iexists _
  isplitl [HF]; · iexact HF
  iintro ⟨Hd, Hw1⟩
  isplitl [Hd]
  · unfold vP
    iapply (Entails.of_eq (pointsTo_congr (land_w m c p k s j hk off inb hoff f)))
    iexact Hd
  · unfold wP
    iapply ((pointsTo_split_subset (Finset.subset_univ (wSrc off inb).view.set)).2)
    isplitl [Hw1] <;> iassumption

/-- Wait for that copy, owing tiles from some shift on. -/
theorem step_arrive (c : Dev nD) (s j : Fin 2) (q : PosShare TreeShare) (p k n : ℕ) {off : Fin 2 → ℕ} {inb}
    {hs : (wSrc off inb).view.WordExact} {hd : (vHalf s j).view.WordExact} {kk : PUnit.{1} → Prog (TpuEff nD τ sig (Elt F) Λ₀ .tc) α} :
    iprop(ctx m K ∗ Fly m c s j q p k ∗ ow c (OR c n)) ⊢ iprop((Rdy m c s j q p k ∗ ow c (OR c n) -∗ run α c (kk ⟨⟩) Q)
      -∗ run α c (.op (.waitDma2 (cpySem s j) (wSrc off inb) (vHalf s j) hs hd) kk) Q) := by
  unfold Fly ow
  iintro ⟨#Hctx, ⟨%D, HF, HD⟩, ⟨%W, HO⟩⟩ Hk
  iapply (wp_waitLocalO EC 𝒱₀ (c : Thread nD τ) none () (srcw := wSrc off inb) (dstw := vHalf s j) (hsrc := hs) (hdst := hd) (N := NW) rfl) $$ [HF HO]
  · isplitl [HF]; · iexact HF
    isplitl [HO]; · iexact HO
    iapply (ctx_mayWait m K c _ n (by
      show (if 17 ≤ (cpySem s j).val then (cpySem s j).val - 15 else 0) < _
      rw [cpySem_val, if_neg (by omega)]; omega))
    iexact Hctx
  iintro ⟨HD', Hs, HO⟩
  iapply Hk
  ihave Hv := HD $$ HD'
  icases Hv with ⟨Hv, Hw⟩
  isplitl [Hv Hs Hw]
  · unfold Rdy
    isplitl [Hv]; · iexact Hv
    isplitl [Hs] <;> iassumption
  · iexists _; iexact HO

/-! ## One accumulation step -/

theorem vP_union (c : Dev nD) (s : Fin 2) (f : Vec F S2x1024x2048 .f32) :
    (vM.view.loc (c : Thread nD τ) ↦[(vHalf s 0).view.set ∪ (vHalf s 1).view.set]{fullShare} f : sProp 𝕄) ⊣⊢ iprop(vP c s 0 f ∗ vP c s 1 f) := by
  unfold vP
  exact pointsTo_union (halves_disjoint s)

/-- Load the step's block of `x` and of `w`. -/
theorem step_loads (c : Dev nD) (s : Fin 2) (q q' : PosShare TreeShare) (p k : ℕ) (hk : k < 4) {off : Fin 2 → ℕ} {inb}
    (hoff : off = ![0, 1024 * k])
    {hlx : xM.view.LoadsAt (Rect.unit (s := S512x4096) off S512x1024.size inb).toLoadRect} {hlv : vM.view.LoadsAt (fullR s).toLoadRect}
    {kk : Vec F S512x1024 .f32 → Vec F S1x1024x2048 .f32 → Prog (TpuEff nD τ sig (Elt F) Λ₀ .tc) α} :
    iprop(xP m c ∗ Rdy m c s 0 q p k ∗ Rdy m c s 1 q' p k)
      ⊢ iprop((xP m c ∗ Rdy m c s 0 q p k ∗ Rdy m c s 1 q' p k -∗ run α c (kk (xBlk m c k) (wBlk m c p k)) Q)
      -∗ run α c (.op (.load xM (Rect.unit (s := S512x4096) off S512x1024.size inb).toLoadRect hlx) fun a =>
          .op (.load vM (fullR s).toLoadRect hlv) fun b => kk a b) Q) := by
  unfold Rdy xP
  iintro ⟨Hx, ⟨H0, Hs0, Hw0⟩, ⟨H1, Hs1, Hw1⟩⟩ Hk
  iapply (wp_load_rect 𝒱₀ (c : Thread nD τ) none Set.univ (m := xM) (r := Rect.unit (s := S512x4096) off S512x1024.size inb) (Finset.subset_univ _)) $$ Hx
  iintro Hx
  rw [load_x m c k hk off inb hoff]
  ihave H := ((vP_union c s (wBuf m c p k)).2) $$ [H0 H1]
  · isplitl [H0] <;> iassumption
  iapply (wp_load_rect 𝒱₀ (c : Thread nD τ) none Set.univ (m := vM) (r := fullR s) (full_subset s)) $$ H
  iintro H
  rw [load_w m c p k s]
  ihave H' := ((vP_union c s (wBuf m c p k)).1) $$ H
  icases H' with ⟨H0, H1⟩
  iapply Hk
  isplitl [Hx]; · iexact Hx
  isplitl [H0 Hs0 Hw0]
  · isplitl [H0]; · iexact H0
    isplitl [Hs0] <;> iassumption
  · isplitl [H1]; · iexact H1
    isplitl [Hs1] <;> iassumption

/-- Load the whole accumulator. -/
theorem step_loadY (c : Dev nD) (Y : Vec F S512x2048 .f32) {inb}
    {hl : yM.view.LoadsAt (Rect.unit (s := S512x2048) ![0, 0] S512x2048.size inb).toLoadRect}
    {kk : Vec F S512x2048 .f32 → Prog (TpuEff nD τ sig (Elt F) Λ₀ .tc) α} :
    yP c Y ⊢ iprop((yP c Y -∗ run α c (kk Y) Q)
      -∗ run α c (.op (.load yM (Rect.unit (s := S512x2048) ![0, 0] S512x2048.size inb).toLoadRect hl) kk) Q) := by
  unfold yP
  iintro Hy Hk
  iapply (wp_load_rect 𝒱₀ (c : Thread nD τ) none Set.univ (m := yM) (r := Rect.unit (s := S512x2048) ![0, 0] S512x2048.size inb) (Finset.subset_univ _)) $$ Hy
  iintro Hy
  rw [read_y Y inb]
  iapply Hk; iexact Hy

/-- Store the whole accumulator. -/
theorem step_storeY (c : Dev nD) (Y Z Z' : Vec F S512x2048 .f32) (hZ : Z = Z') {inb}
    {hx : (yM.access (Rect.unit (s := S512x2048) ![0, 0] S512x2048.size inb)).Stores Finset.univ} {hm}
    {kk : PUnit.{1} → Prog (TpuEff nD τ sig (Elt F) Λ₀ .tc) α} :
    yP c Y ⊢ iprop((yP c Z' -∗ run α c (kk ⟨⟩) Q)
      -∗ run α c (.op (.store yM (Rect.unit (s := S512x2048) ![0, 0] S512x2048.size inb) Z Finset.univ hx hm) kk) Q) := by
  subst hZ
  unfold yP
  iintro Hy Hk
  iapply (wp_store 𝒱₀ (c : Thread nD τ) none Set.univ (m := yM) (r := Rect.unit (s := S512x2048) ![0, 0] S512x2048.size inb) (Finset.subset_univ _)) $$ Hy
  iintro Hy
  rw [write_y Y Z inb]
  iapply Hk; iexact Hy

/-- Load one half of the accumulator. -/
theorem step_half (c : Dev nD) (Y : Vec F S512x2048 .f32) (j : ℕ) (hj : j < 2) {off : Fin 2 → ℕ} {inb} (hoff : off = ![0, 1024 * j])
    {hl : yM.view.LoadsAt (Rect.unit (s := S512x2048) off S512x1024.size inb).toLoadRect}
    {kk : Vec F S512x1024 .f32 → Prog (TpuEff nD τ sig (Elt F) Λ₀ .tc) α} :
    yP c Y ⊢ iprop((yP c Y -∗ run α c (kk (half j Y)) Q)
      -∗ run α c (.op (.load yM (Rect.unit (s := S512x2048) off S512x1024.size inb).toLoadRect hl) kk) Q) := by
  unfold yP
  iintro Hy Hk
  iapply (wp_load_rect 𝒱₀ (c : Thread nD τ) none Set.univ (m := yM) (r := Rect.unit (s := S512x2048) off S512x1024.size inb) (Finset.subset_univ _)) $$ Hy
  iintro Hy
  rw [load_half j hj Y off inb hoff]
  iapply Hk; iexact Hy

/-! ## The barrier -/

/-- Signal device `pe c u`: it gets this device's receive slot `bk u`. -/
theorem step_signal (c : Dev nD) (u : Fin 7) {n : Dev nD} (hn : n = pe c u) {kk : PUnit.{1} → Prog (TpuEff nD τ sig (Elt F) Λ₀ .tc) α} :
    iprop(ctx m K ∗ ow c (OB c u.val) ∗ dutyTok ER (barCell (pe c u)) 0 (bk u) ∗ (∃ f, rPts c (bk u) f))
      ⊢ iprop((ow c (OB c (u.val + 1)) -∗ run α c (kk ⟨⟩) Q) -∗ run α c (.op (.semSignal (n : Thread nD τ) barS 1) kk) Q) := by
  subst hn
  unfold ow
  iintro ⟨#Hctx, ⟨%W, HO⟩, Ht, Hr⟩ Hk
  rw [OB_step]
  iapply (Rounds.wp_signal 𝒱₀ ER (rd m) (c : Thread nD τ) none (dst := (pe c u : Thread nD τ)) (κ := K (pe c u, kB))
      (d := bk u) (by rw [duties_bar]; exact Finset.mem_univ _) (amount_bar m (pe c u) (bk u)) () (OB c (u.val + 1)) rfl) $$ [HO Ht Hr]
  · isplitr; · iapply (ctx_invB m K); iexact Hctx
    isplitl [HO]; · iexact HO
    isplitl [Ht]; · iexact Ht
    isplitl [Hr]
    · rw [payload_bar]; unfold barPay; rw [pe_bk]
      isplitl [Hr]; · iexact Hr
      iapply (ctx_reachedR m K); iexact Hctx
    · iapply (ctx_reachedB m K); iexact Hctx
  iintro HO
  iapply Hk; iexists _; iexact HO

/-- Wait for the seven units: every other device's receive slot for this device's tile. -/
theorem step_barrier (c : Dev nD) {kk : PUnit.{1} → Prog (TpuEff nD τ sig (Elt F) Λ₀ .tc) α} :
    iprop(ctx m K ∗ ow c (OR c 0) ∗ cred (tallyAt (barCell c) () 7) ∗ atPos ER (barCell c) 0 ∅ 0)
      ⊢ iprop((ow c (OR c 0) ∗ semVal (barCell c) 0
          ∗ (barPay (F := F) c 0 ∗ barPay c 1 ∗ barPay c 2 ∗ barPay c 3 ∗ barPay c 4 ∗ barPay c 5 ∗ barPay c 6) -∗ run α c (kk ⟨⟩) Q)
        -∗ run α c (.op (.semWait barS 7) kk) Q) := by
  unfold ow
  iintro ⟨#Hctx, ⟨%W, HO⟩, Hc, Hat⟩ Hk
  iapply (Rounds.wp_wait_rest_token 𝒱₀ ER (rd m) (c : Thread nD τ) none (κ := K (c, kB))
      (wpE_semWait_eq 𝒱₀ (c : Thread nD τ) none Set.univ) (Set.mem_univ _) () (O := OR c 0) (W := W) (R := 0) (m := 0) (T := ∅)
      (by rw [expect_bar])) $$ [Hc HO Hat]
  · isplitr; · iapply (ctx_invB m K); iexact Hctx
    isplitl [Hc]; · iexact Hc
    isplitl [HO]; · iexact HO
    isplitr; · iapply (ctx_mayWait m K c _ 0 (by show 1 < 2; decide)); iexact Hctx
    iexact Hat
  iintro ⟨HO, Hat, -, Hpay⟩
  ihave Hp := (Entails.of_eq (rest_bar m c)) $$ Hpay
  imod (Rounds.cell_close ER (rd m) (Set.mem_univ (K (c, kB))) (fun h => h) (R := 0 + 1) (duties_later m (barCell c))) $$ [Hat] with Hz
  · isplitr; · iapply (ctx_invB m K); iexact Hctx
    iexact Hat
  iapply Hk
  isplitl [HO]; · iexists _; iexact HO
  isplitl [Hz]; · iexact Hz
  iexact Hp

/-! ## Tiles out -/

theorem sPts_eq (c : Dev nD) (u : Fin 7) (f : Vec F S7x512x1024 .bf16) :
    sPts c u f = ((sM.access (slotR u)).loc (c : Thread nD τ) ↦[(sM.access (slotR u)).set]{fullShare} f : sProp 𝕄) := by
  unfold sPts; rw [← sslot_set]
theorem rPts_eq (c : Dev nD) (u : Fin 7) (f : Vec F S7x512x1024 .bf16) :
    rPts c u f = ((rM.access (slotR u)).loc (c : Thread nD τ) ↦[(rM.access (slotR u)).set]{fullShare} f : sProp 𝕄) := by
  unfold rPts; rw [← slot_set]
theorem sPts_store (c : Dev nD) (u : Fin 7) (T : FVec F S1x512x1024 .bf16) (f : Vec F S7x512x1024 .bf16) :
    ((sM.access (slotR u)).loc (c : Thread nD τ) ↦[(sM.access (slotR u)).set]{fullShare} ((sM.access (slotR u)).write (Elt F) f T Finset.univ) : sProp 𝕄)
      ⊢ sPts c u (tBuf T) := by
  refine (Entails.of_eq (sPts_eq c u _).symm).trans ?_
  unfold sPts
  exact Entails.of_eq (pointsTo_congr (store_tile u T f))

/-- Store a tile in send slot `u` (the slot is loaded first, to no effect). -/
theorem step_tile (c : Dev nD) (u : Fin 7) {T : FVec F S1x512x1024 .bf16} (hT : T = tile m c u)
    {hl : sM.view.LoadsAt (slotR u).toLoadRect} {hx : (sM.access (slotR u)).Stores Finset.univ} {hm}
    {kk : PUnit.{1} → Prog (TpuEff nD τ sig (Elt F) Λ₀ .tc) α} :
    iprop(∃ f, sPts (F := F) c u f) ⊢ iprop((sPts c u (tBuf (tile m c u)) -∗ run α c (kk ⟨⟩) Q)
      -∗ run α c (.op (.load sM (slotR u).toLoadRect hl) fun _ => .op (.store sM (slotR u) T Finset.univ hx hm) kk) Q) := by
  subst hT
  iintro ⟨%f, Hs⟩ Hk
  ihave Hs := (Entails.of_eq (sPts_eq c u f)) $$ Hs
  iapply (wp_load_rect 𝒱₀ (c : Thread nD τ) none Set.univ (m := sM) (r := slotR u) (S := (sM.access (slotR u)).set) (Finset.Subset.refl _)) $$ Hs
  iintro Hs
  iapply (wp_store 𝒱₀ (c : Thread nD τ) none Set.univ (m := sM) (r := slotR u) (Mk := Finset.univ) (S := (sM.access (slotR u)).set) (Finset.Subset.refl _)) $$ Hs
  iintro Hs
  iapply Hk
  iapply (sPts_store c u (tile m c u) f)
  iexact Hs

theorem sndPay_intro (c : Dev nD) (u : Fin 7) (f : Vec F S7x512x1024 .bf16) :
    sPts c u f ⊢ (rd m).payload (sndCell c u) 0 0 := by
  rw [payload_snd]; unfold sndPay; iintro H; iexists _; iexact H

theorem rcvPay_intro (c : Dev nD) (u : Fin 7) (fd : Vec F S7x512x1024 .bf16) :
    ((rSlot u).view.loc (pe c u : Thread nD τ) ↦[(rSlot u).view.set]{fullShare}
        ((rSlot u).view.write (Elt F) fd ((sSlot u).view.read (Elt F) (tBuf (tile m c u))) Finset.univ) : sProp 𝕄)
      ⊢ (rd m).payload (rcvCell (pe c u) u) 0 0 := by
  rw [payload_rcv]; unfold rcvPay rPts; rw [pe_bk]
  exact Entails.of_eq (pointsTo_congr (land_tile u (tile m c u) fd))

/-- The library's rule for a transfer, at these cells. -/
theorem send_rule (c : Dev nD) (u : Fin 7)
    {hsc : (rSlot u : Memref sig (Dev.tc (pe c u) : Thread nD τ).2.kind .vmem S512x1024 .bf16).view.ref.isScScratch = false}
    {hs : (sSlot u).view.WordExact} {hd : (rSlot u : Memref sig (Dev.tc (pe c u) : Thread nD τ).2.kind .vmem S512x1024 .bf16).view.WordExact}
    {ht : DmaTarget.Typed .vmem (.dma (rcvSem u)) (.remote (Dev.tc (pe c u) : Thread nD τ) (rSlot u) (.dma (sndSem u)) hsc)}
    {kk : PUnit.{1} → Prog (TpuEff nD τ sig (Elt F) Λ₀ .tc) α} (fd : Vec F S7x512x1024 .bf16) (W : Waits sig Unit) :
    iprop(cellInv ER (rd m) (K (c, kS u)) (sndCell c u) ∗ cellInv ER (rd m) (K (pe c u, kR u)) (rcvCell (pe c u) u)
        ∗ sPts c u (tBuf (tile m c u)) ∗ rPts (pe c u) u fd
        ∗ owes (c : Thread nD τ) (OR c u.val) W
        ∗ dutyTok ER (sndCell c u) 0 0 ∗ reached ER (sndCell c u) 0
        ∗ dutyTok ER (rcvCell (pe c u) u) 0 0 ∗ reached ER (rcvCell (pe c u) u) 0)
      ⊢ iprop((cred (tallyAt (sndCell c u) () NT) ∗ owes (c : Thread nD τ) (OR c (u.val + 1)) W -∗ run α c (kk ⟨⟩) Q)
        -∗ run α c (.op (.enqueueDma (sSlot u) (.remote (Dev.tc (pe c u) : Thread nD τ) (rSlot u) (.dma (sndSem u)) hsc) (.dma (rcvSem u)) hs hd ht) kk) Q) := by
  have h1 := sndPay_intro (m := m) c u (tBuf (tile m c u))
  have h2 := rcvPay_intro (m := m) c u fd
  unfold sPts at h1 ⊢
  unfold rPts
  exact Rounds.wp_send_pointsTo 𝒱₀ ER (rd m) (c : Thread nD τ) none (c' := (pe c u : Thread nD τ)) (src := sSlot u) (dst := rSlot u)
    (sS := .dma (sndSem u)) (sem := .dma (rcvSem u)) (hsc := hsc) (hsrc := hs) (hdst := hd) (hsem := ht) (k := kk)
    (κ₁ := K (c, kS u)) (κ₂ := K (pe c u, kR u)) (r₁ := 0) (r₂ := 0) (d₁ := 0) (d₂ := 0) (fd := fd)
    (by rw [duties_snd]; exact Finset.mem_singleton_self _) (by rw [duties_rcv]; exact Finset.mem_singleton_self _)
    () () NT rfl (amount_snd m c u 0) (amount_rcv m (pe c u) u 0) (OR c (u.val + 1)) (OR_step c u) (W := W) h1 h2

/-- Send the tile for shift `u` to device `pe c u`. -/
theorem step_send (c : Dev nD) (u : Fin 7) {n : Dev nD} (hn : n = pe c u)
    {hsc : (rSlot u : Memref sig (Dev.tc n : Thread nD τ).2.kind .vmem S512x1024 .bf16).view.ref.isScScratch = false}
    {hs : (sSlot u).view.WordExact} {hd : (rSlot u : Memref sig (Dev.tc n : Thread nD τ).2.kind .vmem S512x1024 .bf16).view.WordExact}
    {ht : DmaTarget.Typed .vmem (.dma (rcvSem u)) (.remote (Dev.tc n : Thread nD τ) (rSlot u) (.dma (sndSem u)) hsc)}
    {kk : PUnit.{1} → Prog (TpuEff nD τ sig (Elt F) Λ₀ .tc) α} :
    iprop(ctx m K ∗ sPts c u (tBuf (tile m c u)) ∗ barPay c u ∗ ow c (OR c u.val) ∗ dutyTok ER (sndCell c u) 0 0 ∗ dutyTok ER (rcvCell (pe c u) u) 0 0)
      ⊢ iprop((cred (tallyAt (sndCell c u) () NT) ∗ ow c (OR c (u.val + 1)) -∗ run α c (kk ⟨⟩) Q)
        -∗ run α c (.op (.enqueueDma (sSlot u) (.remote (Dev.tc n : Thread nD τ) (rSlot u) (.dma (sndSem u)) hsc) (.dma (rcvSem u)) hs hd ht) kk) Q) := by
  subst hn
  unfold ow barPay
  iintro ⟨#Hctx, Hs, ⟨⟨%fd, Hd⟩, -⟩, ⟨%W, HO⟩, HtS, HtR⟩ Hk
  iapply (send_rule (m := m) (K := K) c u fd W) $$ [Hs Hd HO HtS HtR]
  · isplitr; · iapply (ctx_invS m K); iexact Hctx
    isplitr; · iapply (ctx_invR m K); iexact Hctx
    isplitl [Hs]; · iexact Hs
    isplitl [Hd]; · iexact Hd
    isplitl [HO]; · iexact HO
    isplitl [HtS]; · iexact HtS
    isplitr; · iapply (ctx_reachedS m K); iexact Hctx
    isplitl [HtR]; · iexact HtR
    iapply (ctx_reachedR m K); iexact Hctx
  iintro ⟨Hc, HO⟩
  iapply Hk
  isplitl [Hc]; · iexact Hc
  iexists _; iexact HO

/-- Wait until the tile for shift `u` has left, owing nothing. -/
theorem step_left (c : Dev nD) (u : Fin 7) {hs : (rSlot u).view.WordExact} {hd : (sSlot u).view.WordExact}
    {kk : PUnit.{1} → Prog (TpuEff nD τ sig (Elt F) Λ₀ .tc) α} :
    iprop(ctx m K ∗ cred (tallyAt (sndCell c u) () NT) ∗ ow c (OR c 7) ∗ atPos ER (sndCell c u) 0 ∅ 0)
      ⊢ iprop((ow c (OR c 7) ∗ semVal (sndCell c u) 0 ∗ (∃ f, sPts (F := F) c u f) -∗ run α c (kk ⟨⟩) Q)
        -∗ run α c (.op (.waitDma2 (sndSem u) (rSlot u) (sSlot u) hs hd) kk) Q) := by
  unfold ow
  iintro ⟨#Hctx, Hc, ⟨%W, HO⟩, Hat⟩ Hk
  iapply (Rounds.wp_wait_rest_token 𝒱₀ ER (rd m) (c : Thread nD τ) none (κ := K (c, kS u))
      (wpE_waitDma2_eq 𝒱₀ (c : Thread nD τ) none Set.univ) (Set.mem_univ _) () (O := OR c 7) (W := W) (R := 0) (m := 0) (T := ∅)
      (by rw [Nat.zero_add, expect_snd]; rfl)) $$ [Hc HO Hat]
  · isplitr; · iapply (ctx_invS m K); iexact Hctx
    isplitl [Hc]; · iexact Hc
    isplitl [HO]; · iexact HO
    isplitr
    · iapply (ctx_mayWait m K c _ 7 (by
        show (if 17 ≤ (sndSem u).val then (sndSem u).val - 15 else 0) < _
        rw [sndSem_val, if_neg (by omega)]; omega))
      iexact Hctx
    iexact Hat
  iintro ⟨HO, Hat, -, Hpay⟩
  ihave Hp := (Entails.of_eq (rest_snd m c u)) $$ Hpay
  imod (Rounds.cell_close ER (rd m) (Set.mem_univ (K (c, kS u))) (fun h => h) (R := 0 + 1) (duties_later m (sndCell c u))) $$ [Hat] with Hz
  · isplitr; · iapply (ctx_invS m K); iexact Hctx
    iexact Hat
  iapply Hk
  isplitl [HO]; · iexists _; iexact HO
  isplitl [Hz]; · iexact Hz
  unfold sndPay; iexact Hp

/-! ## Tiles in -/

/-- Store a tile in the rows of device `o` of the result (they are loaded first, to no effect). -/
theorem step_rows (c o : Dev nD) (S : Finset (Dev nD)) {T : FVec F S512x1024 .f32}
    (hT : ∀ (x : S512x1024.Idx) (i : S4096x1024.Idx), (i 0).val = 512 * o.val + (x 0).val → (i 1).val = (x 1).val → outC m c i = T x)
    {off : Fin 2 → ℕ} {inb} (hoff : off = ![512 * o.val, 0])
    {hl : oM.view.LoadsAt (Rect.unit (s := S4096x1024) off S512x1024.size inb).toLoadRect}
    {hx : (oM.access (Rect.unit (s := S4096x1024) off S512x1024.size inb)).Stores Finset.univ} {hm}
    {kk : PUnit.{1} → Prog (TpuEff nD τ sig (Elt F) Λ₀ .tc) α} :
    oP m c S ⊢ iprop((oP m c (insert o S) -∗ run α c (kk ⟨⟩) Q)
      -∗ run α c (.op (.load oM (Rect.unit (s := S4096x1024) off S512x1024.size inb).toLoadRect hl) fun _ =>
          .op (.store oM (Rect.unit (s := S4096x1024) off S512x1024.size inb) T Finset.univ hx hm) kk) Q) := by
  unfold oP
  iintro ⟨%f, %hf, Ho⟩ Hk
  iapply (wp_load_rect 𝒱₀ (c : Thread nD τ) none Set.univ (m := oM) (r := Rect.unit (s := S4096x1024) off S512x1024.size inb) (Finset.subset_univ _)) $$ Ho
  iintro Ho
  iapply (wp_store 𝒱₀ (c : Thread nD τ) none Set.univ (m := oM) (r := Rect.unit (s := S4096x1024) off S512x1024.size inb) (Finset.subset_univ _)) $$ Ho
  iintro Ho
  iapply Hk
  iexists _
  isplitr
  · ipureintro; exact done_store m c o S f hf T hT off inb hoff
  · iexact Ho

/-- Wait for the tile over shift `u`, and load it. -/
theorem step_recv (c : Dev nD) (u : Fin 7) (n : ℕ) (hn : u.val < n) {hs : (sSlot u).view.WordExact} {hd : (rSlot u).view.WordExact}
    {hl : rM.view.LoadsAt (slotR u).toLoadRect}
    {kk : Vec F S1x512x1024 .bf16 → Prog (TpuEff nD τ sig (Elt F) Λ₀ .tc) α} :
    iprop(ctx m K ∗ cred (tallyAt (rcvCell c u) () NT) ∗ ow c (OR c n) ∗ atPos ER (rcvCell c u) 0 ∅ 0)
      ⊢ iprop((ow c (OR c n) ∗ semVal (rcvCell c u) 0 ∗ (∃ f, rPts (F := F) c u f) -∗ run α c (kk (tile m (pe c (bk u)) u)) Q)
        -∗ run α c (.op (.waitDma2 (rcvSem u) (sSlot u) (rSlot u) hs hd) fun _ => .op (.load rM (slotR u).toLoadRect hl) kk) Q) := by
  unfold ow
  iintro ⟨#Hctx, Hc, ⟨%W, HO⟩, Hat⟩ Hk
  iapply (Rounds.wp_wait_rest_token 𝒱₀ ER (rd m) (c : Thread nD τ) none (κ := K (c, kR u))
      (wpE_waitDma2_eq 𝒱₀ (c : Thread nD τ) none Set.univ) (Set.mem_univ _) () (O := OR c n) (W := W) (R := 0) (m := 0) (T := ∅)
      (by rw [Nat.zero_add, expect_rcv]; rfl)) $$ [Hc HO Hat]
  · isplitr; · iapply (ctx_invR m K); iexact Hctx
    isplitl [Hc]; · iexact Hc
    isplitl [HO]; · iexact HO
    isplitr
    · iapply (ctx_mayWait m K c _ n (by rw [lvOf_rcv]; omega))
      iexact Hctx
    iexact Hat
  iintro ⟨HO, Hat, -, Hpay⟩
  ihave Hp := (Entails.of_eq (rest_rcv m c u)) $$ Hpay
  imod (Rounds.cell_close ER (rd m) (Set.mem_univ (K (c, kR u))) (fun h => h) (R := 0 + 1) (duties_later m (rcvCell c u))) $$ [Hat] with Hz
  · isplitr; · iapply (ctx_invR m K); iexact Hctx
    iexact Hat
  unfold rcvPay
  ihave Hp := (Entails.of_eq (rPts_eq c u _)) $$ Hp
  iapply (wp_load_rect 𝒱₀ (c : Thread nD τ) none Set.univ (m := rM) (r := slotR u) (Finset.Subset.refl _)) $$ Hp
  iintro Hp
  rw [load_tile u]
  iapply Hk
  isplitl [HO]; · iexists _; iexact HO
  isplitl [Hz]; · iexact Hz
  iexists _
  iapply (Entails.of_eq (rPts_eq c u _).symm)
  iexact Hp

end Cert.MeshMatmul
-- ==== Proof.Moves.lean ====
/-
# The kernel's moves

The moves the kernel repeats, each a run of several steps: take one accumulation step, send one tile, receive one tile.
-/
module

public import proofs.«01_k».proof.Proof.Steps

@[expose] public section

set_option maxRecDepth 16384

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## What a device holds for each shift -/

/-- To signal device `pe c u`. -/
def Sig (c : Dev nD) (u : Fin 7) : sProp 𝕄 := iprop(dutyTok ER (barCell (pe c u)) 0 (bk u) ∗ ∃ f, rPts (F := F) c (bk u) f)
/-- To send over shift `u`. -/
def Out (c : Dev nD) (u : Fin 7) : sProp 𝕄 :=
  iprop((∃ f, sPts (F := F) c u f) ∗ dutyTok ER (sndCell c u) 0 0 ∗ dutyTok ER (rcvCell (pe c u) u) 0 0 ∗ atPos ER (sndCell c u) 0 ∅ 0)
/-- Having sent. -/
def Sent (c : Dev nD) (u : Fin 7) : sProp 𝕄 := iprop(cred (tallyAt (sndCell c u) () NT) ∗ atPos ER (sndCell c u) 0 ∅ 0)
/-- The tile has left. -/
def Left (c : Dev nD) (u : Fin 7) : sProp 𝕄 := iprop(semVal (sndCell c u) 0 ∗ ∃ f, sPts (F := F) c u f)
/-- To receive over shift `u`. -/
def Inn (c : Dev nD) (u : Fin 7) : sProp 𝕄 := iprop(cred (tallyAt (rcvCell c u) () NT) ∗ atPos ER (rcvCell c u) 0 ∅ 0)
/-- Having received. -/
def Recd (c : Dev nD) (u : Fin 7) : sProp 𝕄 := iprop(semVal (rcvCell c u) 0 ∗ ∃ f, rPts (F := F) c u f)

variable {m : (ℓ : Loc nD τ sig) → Buf (Elt F) ℓ} {K : Dev nD × Fin 15 → ℕ} {α : Type} {Q : α → sProp (MT nD τ sig Unit (Elt F) ℕ UU ℕ)}

theorem mv_signal (c : Dev nD) (u : Fin 7) {n : Dev nD} (hn : n = pe c u) {kk : PUnit.{1} → Prog (TpuEff nD τ sig (Elt F) Λ₀ .tc) α} :
    iprop(ctx m K ∗ ow c (OB c u.val) ∗ Sig c u)
      ⊢ iprop((ow c (OB c (u.val + 1)) -∗ run α c (kk ⟨⟩) Q) -∗ run α c (.op (.semSignal (n : Thread nD τ) barS 1) kk) Q) := by
  unfold Sig
  iintro ⟨#Hctx, HO, Ht, Hr⟩ Hk
  iapply (step_signal (m := m) (K := K) c u hn) $$ [HO Ht Hr]
  · isplitr; · iexact Hctx
    isplitl [HO]; · iexact HO
    isplitl [Ht] <;> iassumption
  iexact Hk

/-- The first step of a pair: both halves of the slot arrive, the accumulator is set. -/
theorem mv_first (c : Dev nD) (s : Fin 2) (q q' : PosShare TreeShare) (p n : ℕ) (Y : Vec F S512x2048 .f32)
    {off₀ off₁ offx : Fin 2 → ℕ} {inb₀ inb₁ inbx} (hoff : offx = ![0, 1024 * 0])
    {hs₀ : (wSrc off₀ inb₀).view.WordExact} {hd₀ : (vHalf s 0).view.WordExact} {hs₁ : (wSrc off₁ inb₁).view.WordExact} {hd₁ : (vHalf s 1).view.WordExact}
    {hlx : xM.view.LoadsAt (Rect.unit (s := S512x4096) offx S512x1024.size inbx).toLoadRect} {hlv : vM.view.LoadsAt (fullR s).toLoadRect}
    {inb} {hly : yM.view.LoadsAt (Rect.unit (s := S512x2048) ![0, 0] S512x2048.size inb).toLoadRect}
    {inb'} {hx : (yM.access (Rect.unit (s := S512x2048) ![0, 0] S512x2048.size inb')).Stores Finset.univ} {hm}
    {pay : Vec F S512x1024 .f32 → Vec F S1x1024x2048 .f32 → Vec F S512x2048 .f32 → Vec F S512x2048 .f32}
    (hpay : pay (xBlk m c 0) (wBlk m c p 0) Y = acc m c p 0)
    {kk : PUnit.{1} → Prog (TpuEff nD τ sig (Elt F) Λ₀ .tc) α} :
    iprop(ctx m K ∗ xP m c ∗ yP c Y ∗ Fly m c s 0 q p 0 ∗ Fly m c s 1 q' p 0 ∗ ow c (OR c n))
      ⊢ iprop((xP m c ∗ yP c (acc m c p 0) ∗ Idle m c s 0 q ∗ Idle m c s 1 q' ∗ ow c (OR c n) -∗ run α c (kk ⟨⟩) Q)
        -∗ run α c (.op (.waitDma2 (cpySem s 0) (wSrc off₀ inb₀) (vHalf s 0) hs₀ hd₀) fun _ =>
            .op (.waitDma2 (cpySem s 1) (wSrc off₁ inb₁) (vHalf s 1) hs₁ hd₁) fun _ =>
            .op (.load xM (Rect.unit (s := S512x4096) offx S512x1024.size inbx).toLoadRect hlx) fun a =>
            .op (.load vM (fullR s).toLoadRect hlv) fun b =>
            .op (.load yM (Rect.unit (s := S512x2048) ![0, 0] S512x2048.size inb).toLoadRect hly) fun y =>
            .op (.store yM (Rect.unit (s := S512x2048) ![0, 0] S512x2048.size inb') (pay a b y) Finset.univ hx hm) kk) Q) := by
  iintro ⟨#Hctx, Hx, Hy, H0, H1, HO⟩ Hk
  iapply (step_arrive (m := m) (K := K) c s 0 q p 0 n) $$ [H0 HO]
  · isplitr; · iexact Hctx
    isplitl [H0] <;> iassumption
  iintro ⟨H0, HO⟩
  iapply (step_arrive (m := m) (K := K) c s 1 q' p 0 n) $$ [H1 HO]
  · isplitr; · iexact Hctx
    isplitl [H1] <;> iassumption
  iintro ⟨H1, HO⟩
  iapply (step_loads (m := m) c s q q' p 0 (by decide) hoff) $$ [Hx H0 H1]
  · isplitl [Hx]; · iexact Hx
    isplitl [H0] <;> iassumption
  iintro ⟨Hx, H0, H1⟩
  iapply (step_loadY c Y) $$ Hy
  iintro Hy
  iapply (step_storeY c Y _ _ hpay) $$ Hy
  iintro Hy
  iapply Hk
  isplitl [Hx]; · iexact Hx
  isplitl [Hy]; · iexact Hy
  isplitl [H0]; · iapply (rdy_idle m c s 0 q p 0); iexact H0
  isplitl [H1]; · iapply (rdy_idle m c s 1 q' p 0); iexact H1
  iexact HO

/-- A later step of a pair: both halves of the slot arrive, the accumulator is added to. -/
theorem mv_next (c : Dev nD) (s : Fin 2) (q q' : PosShare TreeShare) (p k n : ℕ) (hk : k + 1 < 4)
    {off₀ off₁ offx : Fin 2 → ℕ} {inb₀ inb₁ inbx} (hoff : offx = ![0, 1024 * (k + 1)])
    {hs₀ : (wSrc off₀ inb₀).view.WordExact} {hd₀ : (vHalf s 0).view.WordExact} {hs₁ : (wSrc off₁ inb₁).view.WordExact} {hd₁ : (vHalf s 1).view.WordExact}
    {hlx : xM.view.LoadsAt (Rect.unit (s := S512x4096) offx S512x1024.size inbx).toLoadRect} {hlv : vM.view.LoadsAt (fullR s).toLoadRect}
    {inb} {hly : yM.view.LoadsAt (Rect.unit (s := S512x2048) ![0, 0] S512x2048.size inb).toLoadRect}
    {inb₂} {hly₂ : yM.view.LoadsAt (Rect.unit (s := S512x2048) ![0, 0] S512x2048.size inb₂).toLoadRect}
    {inb'} {hx : (yM.access (Rect.unit (s := S512x2048) ![0, 0] S512x2048.size inb')).Stores Finset.univ} {hm}
    {pay : Vec F S512x1024 .f32 → Vec F S1x1024x2048 .f32 → Vec F S512x2048 .f32 → Vec F S512x2048 .f32}
    (hpay : pay (xBlk m c (k + 1)) (wBlk m c p (k + 1)) (acc m c p k) = acc m c p (k + 1))
    {kk : PUnit.{1} → Prog (TpuEff nD τ sig (Elt F) Λ₀ .tc) α} :
    iprop(ctx m K ∗ xP m c ∗ yP c (acc m c p k) ∗ Fly m c s 0 q p (k + 1) ∗ Fly m c s 1 q' p (k + 1) ∗ ow c (OR c n))
      ⊢ iprop((xP m c ∗ yP c (acc m c p (k + 1)) ∗ Idle m c s 0 q ∗ Idle m c s 1 q' ∗ ow c (OR c n) -∗ run α c (kk ⟨⟩) Q)
        -∗ run α c (.op (.waitDma2 (cpySem s 0) (wSrc off₀ inb₀) (vHalf s 0) hs₀ hd₀) fun _ =>
            .op (.waitDma2 (cpySem s 1) (wSrc off₁ inb₁) (vHalf s 1) hs₁ hd₁) fun _ =>
            .op (.load xM (Rect.unit (s := S512x4096) offx S512x1024.size inbx).toLoadRect hlx) fun a =>
            .op (.load vM (fullR s).toLoadRect hlv) fun b =>
            .op (.load yM (Rect.unit (s := S512x2048) ![0, 0] S512x2048.size inb).toLoadRect hly) fun y =>
            .op (.load yM (Rect.unit (s := S512x2048) ![0, 0] S512x2048.size inb₂).toLoadRect hly₂) fun _ =>
            .op (.store yM (Rect.unit (s := S512x2048) ![0, 0] S512x2048.size inb') (pay a b y) Finset.univ hx hm) kk) Q) := by
  iintro ⟨#Hctx, Hx, Hy, H0, H1, HO⟩ Hk
  iapply (step_arrive (m := m) (K := K) c s 0 q p (k + 1) n) $$ [H0 HO]
  · isplitr; · iexact Hctx
    isplitl [H0] <;> iassumption
  iintro ⟨H0, HO⟩
  iapply (step_arrive (m := m) (K := K) c s 1 q' p (k + 1) n) $$ [H1 HO]
  · isplitr; · iexact Hctx
    isplitl [H1] <;> iassumption
  iintro ⟨H1, HO⟩
  iapply (step_loads (m := m) c s q q' p (k + 1) hk hoff) $$ [Hx H0 H1]
  · isplitl [Hx]; · iexact Hx
    isplitl [H0] <;> iassumption
  iintro ⟨Hx, H0, H1⟩
  iapply (step_loadY c (acc m c p k)) $$ Hy
  iintro Hy
  iapply (step_loadY c (acc m c p k)) $$ Hy
  iintro Hy
  iapply (step_storeY c (acc m c p k) _ _ hpay) $$ Hy
  iintro Hy
  iapply Hk
  isplitl [Hx]; · iexact Hx
  isplitl [Hy]; · iexact Hy
  isplitl [H0]; · iapply (rdy_idle m c s 0 q p (k + 1)); iexact H0
  isplitl [H1]; · iapply (rdy_idle m c s 1 q' p (k + 1)); iexact H1
  iexact HO

/-- Start the copies of both halves of a slot. -/
theorem mv_fetch (c : Dev nD) (s : Fin 2) (q q' : PosShare TreeShare) (p k : ℕ) (hk : k < 4) {off₀ off₁ : Fin 2 → ℕ} {inb₀ inb₁}
    (hoff₀ : off₀ = ![1024 * k, 1024 * ((c.val + 2 * p + 0 + 1) % 8)]) (hoff₁ : off₁ = ![1024 * k, 1024 * ((c.val + 2 * p + 1 + 1) % 8)])
    {hs₀ : (wSrc off₀ inb₀).view.WordExact} {hd₀ : (vHalf s 0).view.WordExact} {hs₁ : (wSrc off₁ inb₁).view.WordExact} {hd₁ : (vHalf s 1).view.WordExact}
    {ht₀ : DmaTarget.Typed (nD := nD) (p := (.tc : Proc τ)) .hbm (.dma (cpySem s 0)) (.here (vHalf s 0))}
    {ht₁ : DmaTarget.Typed (nD := nD) (p := (.tc : Proc τ)) .hbm (.dma (cpySem s 1)) (.here (vHalf s 1))}
    {kk : PUnit.{1} → Prog (TpuEff nD τ sig (Elt F) Λ₀ .tc) α} :
    iprop(Idle m c s 0 q ∗ Idle m c s 1 q') ⊢ iprop((Fly m c s 0 q p k ∗ Fly m c s 1 q' p k -∗ run α c (kk ⟨⟩) Q)
      -∗ run α c (.op (.enqueueDma (wSrc off₀ inb₀) (.here (vHalf s 0)) (.dma (cpySem s 0)) hs₀ hd₀ ht₀) fun _ =>
          .op (.enqueueDma (wSrc off₁ inb₁) (.here (vHalf s 1)) (.dma (cpySem s 1)) hs₁ hd₁ ht₁) kk) Q) := by
  iintro ⟨H0, H1⟩ Hk
  iapply (step_start (m := m) c s 0 q p k hk hoff₀) $$ H0
  iintro H0
  iapply (step_start (m := m) c s 1 q' p k hk hoff₁) $$ H1
  iintro H1
  iapply Hk
  isplitl [H0] <;> iassumption

/-- Round half of the accumulator to a tile and send it over shift `u`. -/
theorem mv_send (c : Dev nD) (u : Fin 7) {n : Dev nD} (hn : n = pe c u) {off : Fin 2 → ℕ} {inb} (hoff : off = ![0, 1024 * (u.val % 2)])
    {hlh : yM.view.LoadsAt (Rect.unit (s := S512x2048) off S512x1024.size inb).toLoadRect}
    {hl : sM.view.LoadsAt (slotR u).toLoadRect} {hx : (sM.access (slotR u)).Stores Finset.univ} {hm}
    {hsc : (rSlot u : Memref sig (Dev.tc n : Thread nD τ).2.kind .vmem S512x1024 .bf16).view.ref.isScScratch = false}
    {hs : (sSlot u).view.WordExact} {hd : (rSlot u : Memref sig (Dev.tc n : Thread nD τ).2.kind .vmem S512x1024 .bf16).view.WordExact}
    {ht : DmaTarget.Typed .vmem (.dma (rcvSem u)) (.remote (Dev.tc n : Thread nD τ) (rSlot u) (.dma (sndSem u)) hsc)}
    {pay : Vec F S512x1024 .f32 → FVec F S1x512x1024 .bf16} (hpay : pay (half (u.val % 2) (acc m c (u.val / 2) 3)) = tile m c u)
    {kk : PUnit.{1} → Prog (TpuEff nD τ sig (Elt F) Λ₀ .tc) α} :
    iprop(ctx m K ∗ yP c (acc m c (u.val / 2) 3) ∗ Out c u ∗ barPay c u ∗ ow c (OR c u.val))
      ⊢ iprop((yP c (acc m c (u.val / 2) 3) ∗ Sent c u ∗ ow c (OR c (u.val + 1)) -∗ run α c (kk ⟨⟩) Q)
        -∗ run α c (.op (.load yM (Rect.unit (s := S512x2048) off S512x1024.size inb).toLoadRect hlh) fun v =>
            .op (.load sM (slotR u).toLoadRect hl) fun _ => .op (.store sM (slotR u) (pay v) Finset.univ hx hm) fun _ =>
            .op (.enqueueDma (sSlot u) (.remote (Dev.tc n : Thread nD τ) (rSlot u) (.dma (sndSem u)) hsc) (.dma (rcvSem u)) hs hd ht) kk) Q) := by
  unfold Out Sent
  iintro ⟨#Hctx, Hy, ⟨Hs, HtS, HtR, Hat⟩, Hb, HO⟩ Hk
  iapply (step_half c (acc m c (u.val / 2) 3) (u.val % 2) (Nat.mod_lt _ (by decide)) hoff) $$ Hy
  iintro Hy
  iapply (step_tile (m := m) c u hpay) $$ Hs
  iintro Hs
  iapply (step_send (m := m) (K := K) c u hn) $$ [Hs Hb HO HtS HtR]
  · isplitr; · iexact Hctx
    isplitl [Hs]; · iexact Hs
    isplitl [Hb]; · iexact Hb
    isplitl [HO]; · iexact HO
    isplitl [HtS] <;> iassumption
  iintro ⟨Hc, HO⟩
  iapply Hk
  isplitl [Hy]; · iexact Hy
  isplitl [Hc Hat]
  · isplitl [Hc] <;> iassumption
  · iexact HO

/-- Keep this device's own tile. -/
theorem mv_own (c : Dev nD) (S : Finset (Dev nD)) {offy : Fin 2 → ℕ} {inby} (hoffy : offy = ![0, 1024 * 1])
    {hlh : yM.view.LoadsAt (Rect.unit (s := S512x2048) offy S512x1024.size inby).toLoadRect}
    {off : Fin 2 → ℕ} {inb inb'} (hoff : off = ![512 * c.val, 0])
    {hl : oM.view.LoadsAt (Rect.unit (s := S4096x1024) off S512x1024.size inb).toLoadRect}
    {hx : (oM.access (Rect.unit (s := S4096x1024) off S512x1024.size inb')).Stores Finset.univ} {hm}
    {pay : Vec F S512x1024 .f32 → FVec F S512x1024 .f32} (hpay : pay (half 1 (acc m c 3 3)) = own m c)
    {kk : PUnit.{1} → Prog (TpuEff nD τ sig (Elt F) Λ₀ .tc) α} :
    iprop(yP c (acc m c 3 3) ∗ oP m c S)
      ⊢ iprop((yP c (acc m c 3 3) ∗ oP m c (insert c S) -∗ run α c (kk ⟨⟩) Q)
        -∗ run α c (.op (.load yM (Rect.unit (s := S512x2048) offy S512x1024.size inby).toLoadRect hlh) fun v =>
            .op (.load oM (Rect.unit (s := S4096x1024) off S512x1024.size inb).toLoadRect hl) fun _ =>
            .op (.store oM (Rect.unit (s := S4096x1024) off S512x1024.size inb') (pay v) Finset.univ hx hm) kk) Q) := by
  iintro ⟨Hy, Ho⟩ Hk
  iapply (step_half c (acc m c 3 3) 1 (by decide) hoffy) $$ Hy
  iintro Hy
  iapply (step_rows (m := m) c c S (fun x i h0 h1 => (outC_own m c x i h0 h1).trans (congrFun hpay x).symm) hoff) $$ Ho
  iintro Ho
  iapply Hk
  isplitl [Hy] <;> iassumption

/-- Wait for the tile over shift `u` and put it in its rows of the result. -/
theorem mv_recv (c : Dev nD) (u : Fin 7) (n : ℕ) (hn : u.val < n) (S : Finset (Dev nD)) {hs : (sSlot u).view.WordExact} {hd : (rSlot u).view.WordExact}
    {hlr : rM.view.LoadsAt (slotR u).toLoadRect}
    {off : Fin 2 → ℕ} {inb inb'} (hoff : off = ![512 * ((c.val + 7 - u.val) % 8), 0])
    {hl : oM.view.LoadsAt (Rect.unit (s := S4096x1024) off S512x1024.size inb).toLoadRect}
    {hx : (oM.access (Rect.unit (s := S4096x1024) off S512x1024.size inb')).Stores Finset.univ} {hm}
    {pay : Vec F S1x512x1024 .bf16 → FVec F S512x1024 .f32} (hpay : pay (tile m (pe c (bk u)) u) = got m c u)
    {kk : PUnit.{1} → Prog (TpuEff nD τ sig (Elt F) Λ₀ .tc) α} :
    iprop(ctx m K ∗ Inn c u ∗ oP m c S ∗ ow c (OR c n))
      ⊢ iprop((Recd c u ∗ oP m c (insert (pe c (bk u)) S) ∗ ow c (OR c n) -∗ run α c (kk ⟨⟩) Q)
        -∗ run α c (.op (.waitDma2 (rcvSem u) (sSlot u) (rSlot u) hs hd) fun _ => .op (.load rM (slotR u).toLoadRect hlr) fun v =>
            .op (.load oM (Rect.unit (s := S4096x1024) off S512x1024.size inb).toLoadRect hl) fun _ =>
            .op (.store oM (Rect.unit (s := S4096x1024) off S512x1024.size inb') (pay v) Finset.univ hx hm) kk) Q) := by
  unfold Inn Recd
  iintro ⟨#Hctx, ⟨Hc, Hat⟩, Ho, HO⟩ Hk
  iapply (step_recv (m := m) (K := K) c u n hn) $$ [Hc Hat HO]
  · isplitr; · iexact Hctx
    isplitl [Hc]; · iexact Hc
    isplitl [HO] <;> iassumption
  iintro ⟨HO, Hz, Hr⟩
  have hrow : (c.val + 7 - u.val) % 8 = (pe c (bk u)).val := (by decide : ∀ (c : Dev nD) (u : Fin 7), (c.val + 7 - u.val) % 8 = (pe c (bk u)).val) c u
  iapply (step_rows (m := m) c (pe c (bk u)) S (fun x i h0 h1 => (outC_got m c u x i h0 h1).trans (congrFun hpay x).symm)
    (hoff.trans (by rw [hrow]))) $$ Ho
  iintro Ho
  iapply Hk
  isplitl [Hz Hr]
  · isplitl [Hz] <;> iassumption
  isplitl [Ho] <;> iassumption

/-- Wait until the tile for shift `u` has left. -/
theorem mv_left (c : Dev nD) (u : Fin 7) {hs : (rSlot u).view.WordExact} {hd : (sSlot u).view.WordExact}
    {kk : PUnit.{1} → Prog (TpuEff nD τ sig (Elt F) Λ₀ .tc) α} :
    iprop(ctx m K ∗ Sent c u ∗ ow c (OR c 7))
      ⊢ iprop((Left c u ∗ ow c (OR c 7) -∗ run α c (kk ⟨⟩) Q) -∗ run α c (.op (.waitDma2 (sndSem u) (rSlot u) (sSlot u) hs hd) kk) Q) := by
  unfold Sent Left
  iintro ⟨#Hctx, ⟨Hc, Hat⟩, HO⟩ Hk
  iapply (step_left (m := m) (K := K) c u) $$ [Hc Hat HO]
  · isplitr; · iexact Hctx
    isplitl [Hc]; · iexact Hc
    isplitl [HO] <;> iassumption
  iintro ⟨HO, Hz, Hs⟩
  iapply Hk
  isplitl [Hz Hs]
  · isplitl [Hz] <;> iassumption
  · iexact HO

end Cert.MeshMatmul
-- ==== Proof.Body.lean ====
/-
# One device's run

The body of the kernel on device `c`, walked from start to end.
-/
module

public import proofs.«01_k».proof.Proof.Moves

@[expose] public section

set_option maxRecDepth 65536

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Fin 15 → ℕ)

/-- The four shares of `w`, one for each half that copies read it into. -/
def wq (i : Fin 4) : PosShare TreeShare := shareTok fullShare 4 i

/-- The scales. -/
def sxP (c : Dev nD) : sProp 𝕄 := sxM.view.loc (c : Thread nD τ) ↦{fullShare} sxC m c
def swP (c : Dev nD) : sProp 𝕄 := swM.view.loc (c : Thread nD τ) ↦{fullShare} swC m c

/-- The four halves, free. -/
def Idles (c : Dev nD) : sProp 𝕄 :=
  iprop(Idle m c 0 0 (wq 0) ∗ Idle m c 0 1 (wq 1) ∗ Idle m c 1 0 (wq 2) ∗ Idle m c 1 1 (wq 3))

/-- Seven of them. -/
def all7 (P : Fin 7 → sProp 𝕄) : sProp 𝕄 := iprop(P 0 ∗ P 1 ∗ P 2 ∗ P 3 ∗ P 4 ∗ P 5 ∗ P 6)

/-- What device `c` holds when its body starts. -/
def Begin (c : Dev nD) : sProp 𝕄 :=
  iprop(ctx m K ∗ ow c (OB c 0) ∗ xP m c ∗ sxP m c ∗ swP m c ∗ oP m c ∅ ∗ (∃ Y, yP (F := F) c Y) ∗ Idles m c
    ∗ (cred (tallyAt (barCell c) () 7) ∗ atPos ER (barCell c) 0 ∅ 0) ∗ all7 (Sig (F := F) c) ∗ all7 (Out (F := F) c) ∗ all7 (Inn (F := F) c))

/-- What it holds when its body ends. -/
def End (c : Dev nD) : sProp 𝕄 :=
  iprop(ow c 0 ∗ xP m c ∗ sxP m c ∗ swP m c ∗ (oM.view.loc (c : Thread nD τ) ↦{fullShare} outC m c) ∗ (∃ Y, yP (F := F) c Y) ∗ Idles m c
    ∗ semVal (barCell c) 0 ∗ all7 (Left (F := F) c) ∗ all7 (Recd (F := F) c))

/-- The body of the kernel on device `c`. -/
abbrev theBody : Prog (TpuEff nD τ sig (Elt F) Λ₀ .tc) PUnit :=
  cc0__body (F := F) xM (Memref.isWhole_whole _) sxM (Memref.isWhole_whole _) swM (Memref.isWhole_whole _) wM (Memref.isWhole_whole _)
    oM (Memref.isWhole_whole _) vM (Memref.isWhole_whole _) yM (Memref.isWhole_whole _) sM (Memref.isWhole_whole _) rM (Memref.isWhole_whole _)
    cc0_scratch4 cc0_scratch5 cc0_scratch6

variable {m K}

theorem idx1 (i : S1.Idx) : i = ix1 := by
  funext d
  apply Fin.ext
  have h := (i d).isLt
  have h' := (ix1 d).isLt
  have hd : S1.size d = 1 := (by decide : ∀ d : Fin S1.rank, S1.size d = 1) d
  omega

variable {α : Type} {Q : α → sProp (MT nD τ sig Unit (Elt F) ℕ UU ℕ)}

/-- Load the scale of `x`. -/
theorem step_sx (c : Dev nD) {inb} {hl : sxM.view.LoadsAt (Rect.unit (s := S1) ![0] S1.size inb).toLoadRect}
    {kk : Vec F S1 .f32 → Prog (TpuEff nD τ sig (Elt F) Λ₀ .tc) α} :
    sxP m c ⊢ iprop((sxP m c -∗ run α c (kk fun _ => sxC m c ix1) Q)
      -∗ run α c (.op (.load sxM (Rect.unit (s := S1) ![0] S1.size inb).toLoadRect hl) kk) Q) := by
  unfold sxP
  iintro Hs Hk
  iapply (wp_load_rect 𝒱₀ (c : Thread nD τ) none Set.univ (m := sxM) (r := Rect.unit (s := S1) ![0] S1.size inb) (Finset.subset_univ _)) $$ Hs
  iintro Hs
  rw [show (sxM.access (Rect.unit (s := S1) ![0] S1.size inb)).read (Elt F) (sxC m c) = fun _ => sxC m c ix1 from
    funext fun i => congrArg (sxC m c) (idx1 _)]
  iapply Hk; iexact Hs

/-- Load the scale of `w`. -/
theorem step_sw (c : Dev nD) {inb} {hl : swM.view.LoadsAt (Rect.unit (s := S1) ![0] S1.size inb).toLoadRect}
    {kk : Vec F S1 .f32 → Prog (TpuEff nD τ sig (Elt F) Λ₀ .tc) α} :
    swP m c ⊢ iprop((swP m c -∗ run α c (kk fun _ => swC m c ix1) Q)
      -∗ run α c (.op (.load swM (Rect.unit (s := S1) ![0] S1.size inb).toLoadRect hl) kk) Q) := by
  unfold swP
  iintro Hs Hk
  iapply (wp_load_rect 𝒱₀ (c : Thread nD τ) none Set.univ (m := swM) (r := Rect.unit (s := S1) ![0] S1.size inb) (Finset.subset_univ _)) $$ Hs
  iintro Hs
  rw [show (swM.access (Rect.unit (s := S1) ![0] S1.size inb)).read (Elt F) (swC m c) = fun _ => swC m c ix1 from
    funext fun i => congrArg (swC m c) (idx1 _)]
  iapply Hk; iexact Hs

/-- Having signalled all seven, the device owes what it will send. -/
theorem ow_signalled (c : Dev nD) : ow (F := F) c (OB c 7) ⊢ ow c (OR c 0) := Entails.of_eq (congrArg _ (OB_end c))
/-- Having sent all seven, it owes nothing. -/
theorem ow_sent (c : Dev nD) : ow (F := F) c (OR c 7) ⊢ ow c 0 := Entails.of_eq (congrArg _ (OR_end c))

/-- A program that has ended. -/
theorem step_end (c : Dev nD) (a : α) : Q a ⊢ run α c (.ret a : Prog (TpuEff nD τ sig (Elt F) Λ₀ .tc) α) Q := by
  unfold run
  rw [wp_ret]
  exact fupd_intro

/-- The offset of a copy, from its closed form: the columns of shift `r` are those of pair `p`, half `j`. -/
theorem off_of (p k j : ℕ) {o : Fin 2 → ℕ} {a c r : ℕ} (h : o = ![a, 1024 * ((c + r) % 8)]) (ha : a = 1024 * k) (hr : r % 8 = (2 * p + j + 1) % 8) :
    o = ![1024 * k, 1024 * ((c + 2 * p + j + 1) % 8)] := by
  rw [h, ha, show (c + r) % 8 = (c + 2 * p + j + 1) % 8 by omega]

set_option maxHeartbeats 4000000 in
/-- The run of the body. -/
theorem body_run (c : Dev nD) {Q : PUnit → sProp 𝕄} :
    Begin m K c ⊢ iprop((End m c -∗ Q ⟨⟩) -∗ run PUnit c (theBody (F := F)) Q) := by
  unfold Begin Idles all7
  iintro ⟨#Hctx, HO, Hx, Hsx, Hsw, Ho, ⟨%Y₀, Hy⟩, ⟨H00, H01, H10, H11⟩, ⟨Hcb, Hab⟩, ⟨g0, g1, g2, g3, g4, g5, g6⟩,
    ⟨o0, o1, o2, o3, o4, o5, o6⟩, ⟨i0, i1, i2, i3, i4, i5, i6⟩⟩ Hk
  unfold theBody run
  rw [cc0__body_eq_skeleton]
  simp only [cc0__body_skel, k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel,
    k0_part34_eq_skeleton, k0_part34_skel,
    smemLoad, smemLoadElt, semSignalWord, semWaitWord, Prog.lift, Prog.bind_op, Prog.bind_ret, Prog.pure_eq_ret, wp_deviceId]
  iapply (step_sx (m := m) c) $$ Hsx
  iintro Hsx
  iapply (step_sw (m := m) c) $$ Hsw
  iintro Hsw
  iapply (mv_signal (m := m) (K := K) c 0 (n := ⟨k0_dev1 c, k0_dev1_lt c⟩) (Fin.ext (k0_dev1_eq c))) $$ [HO g0]
  · isplitr; · iexact Hctx
    isplitl [HO]; · iexact HO
    iexact g0
  iintro HO
  iapply (mv_signal (m := m) (K := K) c 1 (n := ⟨k0_dev2 c, k0_dev2_lt c⟩) (Fin.ext (k0_dev2_eq c))) $$ [HO g1]
  · isplitr; · iexact Hctx
    isplitl [HO]; · iexact HO
    iexact g1
  iintro HO
  iapply (mv_signal (m := m) (K := K) c 2 (n := ⟨k0_dev3 c, k0_dev3_lt c⟩) (Fin.ext (k0_dev3_eq c))) $$ [HO g2]
  · isplitr; · iexact Hctx
    isplitl [HO]; · iexact HO
    iexact g2
  iintro HO
  iapply (mv_signal (m := m) (K := K) c 3 (n := ⟨k0_dev4 c, k0_dev4_lt c⟩) (Fin.ext (k0_dev4_eq c))) $$ [HO g3]
  · isplitr; · iexact Hctx
    isplitl [HO]; · iexact HO
    iexact g3
  iintro HO
  iapply (mv_signal (m := m) (K := K) c 4 (n := ⟨k0_dev5 c, k0_dev5_lt c⟩) (Fin.ext (k0_dev5_eq c))) $$ [HO g4]
  · isplitr; · iexact Hctx
    isplitl [HO]; · iexact HO
    iexact g4
  iintro HO
  iapply (mv_signal (m := m) (K := K) c 5 (n := ⟨k0_dev6 c, k0_dev6_lt c⟩) (Fin.ext (k0_dev6_eq c))) $$ [HO g5]
  · isplitr; · iexact Hctx
    isplitl [HO]; · iexact HO
    iexact g5
  iintro HO
  iapply (mv_signal (m := m) (K := K) c 6 (n := ⟨k0_dev7 c, k0_dev7_lt c⟩) (Fin.ext (k0_dev7_eq c))) $$ [HO g6]
  · isplitr; · iexact Hctx
    isplitl [HO]; · iexact HO
    iexact g6
  iintro HO
  iapply (step_barrier (m := m) (K := K) c) $$ [HO Hcb Hab]
  · isplitr; · iexact Hctx
    isplitl [HO]; · iapply (ow_signalled c); iexact HO
    isplitl [Hcb] <;> iassumption
  iintro ⟨HO, Hzb, b0, b1, b2, b3, b4, b5, b6⟩
  iapply (mv_fetch (m := m) c 0 (wq 0) (wq 1) 0 0 (by decide) (off₀ := k0_off1 c 1#32) (off₁ := k0_off1 c 2#32)
    (off_of 0 0 0 (k0_off1_eq c 1) rfl rfl) (off_of 0 0 1 (k0_off1_eq c 2) rfl rfl)) $$ [H00 H01]
  · isplitl [H00]; · iexact H00
    iexact H01
  iintro ⟨H00, H01⟩
  iapply (mv_fetch (m := m) c 1 (wq 2) (wq 3) 0 1 (by decide) (off₀ := k0_off2 c 1#32) (off₁ := k0_off2 c 2#32)
    (off_of 0 1 0 (k0_off2_eq c 1) rfl rfl) (off_of 0 1 1 (k0_off2_eq c 2) rfl rfl)) $$ [H10 H11]
  · isplitl [H10]; · iexact H10
    iexact H11
  iintro ⟨H10, H11⟩
  iapply (mv_first (m := m) (K := K) c 0 (wq 0) (wq 1) 0 0 Y₀ (offx := ![0, 0]) rfl (pay := fun a b _ => k0_pay2 a b) rfl) $$ [Hx Hy H00 H01 HO]
  · isplitr; · iexact Hctx
    isplitl [Hx]; · iexact Hx
    isplitl [Hy]; · iexact Hy
    isplitl [H00]; · iexact H00
    isplitl [H01]; · iexact H01
    iexact HO
  iintro ⟨Hx, Hy, H00, H01, HO⟩
  iapply (mv_fetch (m := m) c 0 (wq 0) (wq 1) 0 2 (by decide) (off₀ := k0_off3 c 1#32) (off₁ := k0_off3 c 2#32)
    (off_of 0 2 0 (k0_off3_eq c 1) rfl rfl) (off_of 0 2 1 (k0_off3_eq c 2) rfl rfl)) $$ [H00 H01]
  · isplitl [H00]; · iexact H00
    iexact H01
  iintro ⟨H00, H01⟩
  iapply (mv_next (m := m) (K := K) c 1 (wq 2) (wq 3) 0 0 0 (by decide) (offx := ![0, 1024]) rfl (pay := k0_pay3) rfl) $$ [Hx Hy H10 H11 HO]
  · isplitr; · iexact Hctx
    isplitl [Hx]; · iexact Hx
    isplitl [Hy]; · iexact Hy
    isplitl [H10]; · iexact H10
    isplitl [H11]; · iexact H11
    iexact HO
  iintro ⟨Hx, Hy, H10, H11, HO⟩
  iapply (mv_fetch (m := m) c 1 (wq 2) (wq 3) 0 3 (by decide) (off₀ := k0_off4 c 1#32) (off₁ := k0_off4 c 2#32)
    (off_of 0 3 0 (k0_off4_eq c 1) rfl rfl) (off_of 0 3 1 (k0_off4_eq c 2) rfl rfl)) $$ [H10 H11]
  · isplitl [H10]; · iexact H10
    iexact H11
  iintro ⟨H10, H11⟩
  iapply (mv_next (m := m) (K := K) c 0 (wq 0) (wq 1) 0 1 0 (by decide) (offx := ![0, 2048]) rfl (pay := k0_pay4) rfl) $$ [Hx Hy H00 H01 HO]
  · isplitr; · iexact Hctx
    isplitl [Hx]; · iexact Hx
    isplitl [Hy]; · iexact Hy
    isplitl [H00]; · iexact H00
    isplitl [H01]; · iexact H01
    iexact HO
  iintro ⟨Hx, Hy, H00, H01, HO⟩
  iapply (mv_fetch (m := m) c 0 (wq 0) (wq 1) 1 0 (by decide) (off₀ := k0_off1 c 3#32) (off₁ := k0_off1 c 4#32)
    (off_of 1 0 0 (k0_off1_eq c 3) rfl rfl) (off_of 1 0 1 (k0_off1_eq c 4) rfl rfl)) $$ [H00 H01]
  · isplitl [H00]; · iexact H00
    iexact H01
  iintro ⟨H00, H01⟩
  iapply (mv_next (m := m) (K := K) c 1 (wq 2) (wq 3) 0 2 0 (by decide) (offx := ![0, 3072]) rfl (pay := k0_pay5) rfl) $$ [Hx Hy H10 H11 HO]
  · isplitr; · iexact Hctx
    isplitl [Hx]; · iexact Hx
    isplitl [Hy]; · iexact Hy
    isplitl [H10]; · iexact H10
    isplitl [H11]; · iexact H11
    iexact HO
  iintro ⟨Hx, Hy, H10, H11, HO⟩
  iapply (mv_fetch (m := m) c 1 (wq 2) (wq 3) 1 1 (by decide) (off₀ := k0_off2 c 3#32) (off₁ := k0_off2 c 4#32)
    (off_of 1 1 0 (k0_off2_eq c 3) rfl rfl) (off_of 1 1 1 (k0_off2_eq c 4) rfl rfl)) $$ [H10 H11]
  · isplitl [H10]; · iexact H10
    iexact H11
  iintro ⟨H10, H11⟩
  iapply (mv_send (m := m) (K := K) c 0 (n := ⟨k0_dev8 c, k0_dev8_lt c⟩) (Fin.ext (k0_dev8_eq c)) (off := ![0, 0]) rfl (pay := k0_pay6 (scl m c)) rfl) $$ [Hy o0 b0 HO]
  · isplitr; · iexact Hctx
    isplitl [Hy]; · iexact Hy
    isplitl [o0]; · iexact o0
    isplitl [b0]; · iexact b0
    iexact HO
  iintro ⟨Hy, o0, HO⟩
  iapply (mv_send (m := m) (K := K) c 1 (n := ⟨k0_dev9 c, k0_dev9_lt c⟩) (Fin.ext (k0_dev9_eq c)) (off := ![0, 1024]) rfl (pay := k0_pay7 (scl m c)) rfl) $$ [Hy o1 b1 HO]
  · isplitr; · iexact Hctx
    isplitl [Hy]; · iexact Hy
    isplitl [o1]; · iexact o1
    isplitl [b1]; · iexact b1
    iexact HO
  iintro ⟨Hy, o1, HO⟩
  iapply (mv_first (m := m) (K := K) c 0 (wq 0) (wq 1) 1 2 (acc m c 0 3) (offx := ![0, 0]) rfl (pay := fun a b _ => k0_pay8 a b) rfl) $$ [Hx Hy H00 H01 HO]
  · isplitr; · iexact Hctx
    isplitl [Hx]; · iexact Hx
    isplitl [Hy]; · iexact Hy
    isplitl [H00]; · iexact H00
    isplitl [H01]; · iexact H01
    iexact HO
  iintro ⟨Hx, Hy, H00, H01, HO⟩
  iapply (mv_fetch (m := m) c 0 (wq 0) (wq 1) 1 2 (by decide) (off₀ := k0_off3 c 3#32) (off₁ := k0_off3 c 4#32)
    (off_of 1 2 0 (k0_off3_eq c 3) rfl rfl) (off_of 1 2 1 (k0_off3_eq c 4) rfl rfl)) $$ [H00 H01]
  · isplitl [H00]; · iexact H00
    iexact H01
  iintro ⟨H00, H01⟩
  iapply (mv_next (m := m) (K := K) c 1 (wq 2) (wq 3) 1 0 2 (by decide) (offx := ![0, 1024]) rfl (pay := k0_pay9) rfl) $$ [Hx Hy H10 H11 HO]
  · isplitr; · iexact Hctx
    isplitl [Hx]; · iexact Hx
    isplitl [Hy]; · iexact Hy
    isplitl [H10]; · iexact H10
    isplitl [H11]; · iexact H11
    iexact HO
  iintro ⟨Hx, Hy, H10, H11, HO⟩
  iapply (mv_fetch (m := m) c 1 (wq 2) (wq 3) 1 3 (by decide) (off₀ := k0_off4 c 3#32) (off₁ := k0_off4 c 4#32)
    (off_of 1 3 0 (k0_off4_eq c 3) rfl rfl) (off_of 1 3 1 (k0_off4_eq c 4) rfl rfl)) $$ [H10 H11]
  · isplitl [H10]; · iexact H10
    iexact H11
  iintro ⟨H10, H11⟩
  iapply (mv_next (m := m) (K := K) c 0 (wq 0) (wq 1) 1 1 2 (by decide) (offx := ![0, 2048]) rfl (pay := k0_pay10) rfl) $$ [Hx Hy H00 H01 HO]
  · isplitr; · iexact Hctx
    isplitl [Hx]; · iexact Hx
    isplitl [Hy]; · iexact Hy
    isplitl [H00]; · iexact H00
    isplitl [H01]; · iexact H01
    iexact HO
  iintro ⟨Hx, Hy, H00, H01, HO⟩
  iapply (mv_fetch (m := m) c 0 (wq 0) (wq 1) 2 0 (by decide) (off₀ := k0_off1 c 5#32) (off₁ := k0_off1 c 6#32)
    (off_of 2 0 0 (k0_off1_eq c 5) rfl rfl) (off_of 2 0 1 (k0_off1_eq c 6) rfl rfl)) $$ [H00 H01]
  · isplitl [H00]; · iexact H00
    iexact H01
  iintro ⟨H00, H01⟩
  iapply (mv_next (m := m) (K := K) c 1 (wq 2) (wq 3) 1 2 2 (by decide) (offx := ![0, 3072]) rfl (pay := fun a b y => k0_pay12 (k0_pay11 a b y)) rfl) $$ [Hx Hy H10 H11 HO]
  · isplitr; · iexact Hctx
    isplitl [Hx]; · iexact Hx
    isplitl [Hy]; · iexact Hy
    isplitl [H10]; · iexact H10
    isplitl [H11]; · iexact H11
    iexact HO
  iintro ⟨Hx, Hy, H10, H11, HO⟩
  iapply (mv_fetch (m := m) c 1 (wq 2) (wq 3) 2 1 (by decide) (off₀ := k0_off2 c 5#32) (off₁ := k0_off2 c 6#32)
    (off_of 2 1 0 (k0_off2_eq c 5) rfl rfl) (off_of 2 1 1 (k0_off2_eq c 6) rfl rfl)) $$ [H10 H11]
  · isplitl [H10]; · iexact H10
    iexact H11
  iintro ⟨H10, H11⟩
  iapply (mv_send (m := m) (K := K) c 2 (n := ⟨k0_dev10 c, k0_dev10_lt c⟩) (Fin.ext (k0_dev10_eq c)) (off := ![0, 0]) rfl (pay := k0_pay13 (scl m c)) rfl) $$ [Hy o2 b2 HO]
  · isplitr; · iexact Hctx
    isplitl [Hy]; · iexact Hy
    isplitl [o2]; · iexact o2
    isplitl [b2]; · iexact b2
    iexact HO
  iintro ⟨Hy, o2, HO⟩
  iapply (mv_send (m := m) (K := K) c 3 (n := ⟨k0_dev11 c, k0_dev11_lt c⟩) (Fin.ext (k0_dev11_eq c)) (off := ![0, 1024]) rfl (pay := k0_pay14 (scl m c)) rfl) $$ [Hy o3 b3 HO]
  · isplitr; · iexact Hctx
    isplitl [Hy]; · iexact Hy
    isplitl [o3]; · iexact o3
    isplitl [b3]; · iexact b3
    iexact HO
  iintro ⟨Hy, o3, HO⟩
  iapply (mv_first (m := m) (K := K) c 0 (wq 0) (wq 1) 2 4 (acc m c 1 3) (offx := ![0, 0]) rfl (pay := fun a b _ => k0_pay15 a b) rfl) $$ [Hx Hy H00 H01 HO]
  · isplitr; · iexact Hctx
    isplitl [Hx]; · iexact Hx
    isplitl [Hy]; · iexact Hy
    isplitl [H00]; · iexact H00
    isplitl [H01]; · iexact H01
    iexact HO
  iintro ⟨Hx, Hy, H00, H01, HO⟩
  iapply (mv_fetch (m := m) c 0 (wq 0) (wq 1) 2 2 (by decide) (off₀ := k0_off3 c 5#32) (off₁ := k0_off3 c 6#32)
    (off_of 2 2 0 (k0_off3_eq c 5) rfl rfl) (off_of 2 2 1 (k0_off3_eq c 6) rfl rfl)) $$ [H00 H01]
  · isplitl [H00]; · iexact H00
    iexact H01
  iintro ⟨H00, H01⟩
  iapply (mv_next (m := m) (K := K) c 1 (wq 2) (wq 3) 2 0 4 (by decide) (offx := ![0, 1024]) rfl (pay := fun a b y => k0_pay17 (k0_pay16 a b y)) rfl) $$ [Hx Hy H10 H11 HO]
  · isplitr; · iexact Hctx
    isplitl [Hx]; · iexact Hx
    isplitl [Hy]; · iexact Hy
    isplitl [H10]; · iexact H10
    isplitl [H11]; · iexact H11
    iexact HO
  iintro ⟨Hx, Hy, H10, H11, HO⟩
  iapply (mv_fetch (m := m) c 1 (wq 2) (wq 3) 2 3 (by decide) (off₀ := k0_off4 c 5#32) (off₁ := k0_off4 c 6#32)
    (off_of 2 3 0 (k0_off4_eq c 5) rfl rfl) (off_of 2 3 1 (k0_off4_eq c 6) rfl rfl)) $$ [H10 H11]
  · isplitl [H10]; · iexact H10
    iexact H11
  iintro ⟨H10, H11⟩
  iapply (mv_next (m := m) (K := K) c 0 (wq 0) (wq 1) 2 1 4 (by decide) (offx := ![0, 2048]) rfl (pay := k0_pay18) rfl) $$ [Hx Hy H00 H01 HO]
  · isplitr; · iexact Hctx
    isplitl [Hx]; · iexact Hx
    isplitl [Hy]; · iexact Hy
    isplitl [H00]; · iexact H00
    isplitl [H01]; · iexact H01
    iexact HO
  iintro ⟨Hx, Hy, H00, H01, HO⟩
  iapply (mv_fetch (m := m) c 0 (wq 0) (wq 1) 3 0 (by decide) (off₀ := k0_off1 c 7#32) (off₁ := k0_off1 c 0#32)
    (off_of 3 0 0 (k0_off1_eq c 7) rfl rfl) (off_of 3 0 1 (k0_off1_eq c 0) rfl rfl)) $$ [H00 H01]
  · isplitl [H00]; · iexact H00
    iexact H01
  iintro ⟨H00, H01⟩
  iapply (mv_next (m := m) (K := K) c 1 (wq 2) (wq 3) 2 2 4 (by decide) (offx := ![0, 3072]) rfl (pay := k0_pay19) rfl) $$ [Hx Hy H10 H11 HO]
  · isplitr; · iexact Hctx
    isplitl [Hx]; · iexact Hx
    isplitl [Hy]; · iexact Hy
    isplitl [H10]; · iexact H10
    isplitl [H11]; · iexact H11
    iexact HO
  iintro ⟨Hx, Hy, H10, H11, HO⟩
  iapply (mv_fetch (m := m) c 1 (wq 2) (wq 3) 3 1 (by decide) (off₀ := k0_off2 c 7#32) (off₁ := k0_off2 c 0#32)
    (off_of 3 1 0 (k0_off2_eq c 7) rfl rfl) (off_of 3 1 1 (k0_off2_eq c 0) rfl rfl)) $$ [H10 H11]
  · isplitl [H10]; · iexact H10
    iexact H11
  iintro ⟨H10, H11⟩
  iapply (mv_send (m := m) (K := K) c 4 (n := ⟨k0_dev12 c, k0_dev12_lt c⟩) (Fin.ext (k0_dev12_eq c)) (off := ![0, 0]) rfl (pay := k0_pay20 (scl m c)) rfl) $$ [Hy o4 b4 HO]
  · isplitr; · iexact Hctx
    isplitl [Hy]; · iexact Hy
    isplitl [o4]; · iexact o4
    isplitl [b4]; · iexact b4
    iexact HO
  iintro ⟨Hy, o4, HO⟩
  iapply (mv_send (m := m) (K := K) c 5 (n := ⟨k0_dev13 c, k0_dev13_lt c⟩) (Fin.ext (k0_dev13_eq c)) (off := ![0, 1024]) rfl (pay := k0_pay21 (scl m c)) rfl) $$ [Hy o5 b5 HO]
  · isplitr; · iexact Hctx
    isplitl [Hy]; · iexact Hy
    isplitl [o5]; · iexact o5
    isplitl [b5]; · iexact b5
    iexact HO
  iintro ⟨Hy, o5, HO⟩
  iapply (mv_recv (m := m) (K := K) c 0 6 (by decide) _ (off := k0_off5 c 1#32) (k0_off5_eq c 0) (pay := k0_pay22) rfl) $$ [i0 Ho HO]
  · isplitr; · iexact Hctx
    isplitl [i0]; · iexact i0
    isplitl [Ho]; · iexact Ho
    iexact HO
  iintro ⟨i0, Ho, HO⟩
  iapply (mv_recv (m := m) (K := K) c 1 6 (by decide) _ (off := k0_off5 c 2#32) (k0_off5_eq c 1) (pay := k0_pay23) rfl) $$ [i1 Ho HO]
  · isplitr; · iexact Hctx
    isplitl [i1]; · iexact i1
    isplitl [Ho]; · iexact Ho
    iexact HO
  iintro ⟨i1, Ho, HO⟩
  iapply (mv_first (m := m) (K := K) c 0 (wq 0) (wq 1) 3 6 (acc m c 2 3) (offx := ![0, 0]) rfl (pay := fun a b _ => k0_pay24 a b) rfl) $$ [Hx Hy H00 H01 HO]
  · isplitr; · iexact Hctx
    isplitl [Hx]; · iexact Hx
    isplitl [Hy]; · iexact Hy
    isplitl [H00]; · iexact H00
    isplitl [H01]; · iexact H01
    iexact HO
  iintro ⟨Hx, Hy, H00, H01, HO⟩
  iapply (mv_fetch (m := m) c 0 (wq 0) (wq 1) 3 2 (by decide) (off₀ := k0_off3 c 7#32) (off₁ := k0_off3 c 0#32)
    (off_of 3 2 0 (k0_off3_eq c 7) rfl rfl) (off_of 3 2 1 (k0_off3_eq c 0) rfl rfl)) $$ [H00 H01]
  · isplitl [H00]; · iexact H00
    iexact H01
  iintro ⟨H00, H01⟩
  iapply (mv_next (m := m) (K := K) c 1 (wq 2) (wq 3) 3 0 6 (by decide) (offx := ![0, 1024]) rfl (pay := k0_pay25) rfl) $$ [Hx Hy H10 H11 HO]
  · isplitr; · iexact Hctx
    isplitl [Hx]; · iexact Hx
    isplitl [Hy]; · iexact Hy
    isplitl [H10]; · iexact H10
    isplitl [H11]; · iexact H11
    iexact HO
  iintro ⟨Hx, Hy, H10, H11, HO⟩
  iapply (mv_fetch (m := m) c 1 (wq 2) (wq 3) 3 3 (by decide) (off₀ := k0_off4 c 7#32) (off₁ := k0_off4 c 0#32)
    (off_of 3 3 0 (k0_off4_eq c 7) rfl rfl) (off_of 3 3 1 (k0_off4_eq c 0) rfl rfl)) $$ [H10 H11]
  · isplitl [H10]; · iexact H10
    iexact H11
  iintro ⟨H10, H11⟩
  iapply (mv_next (m := m) (K := K) c 0 (wq 0) (wq 1) 3 1 6 (by decide) (offx := ![0, 2048]) rfl (pay := k0_pay26) rfl) $$ [Hx Hy H00 H01 HO]
  · isplitr; · iexact Hctx
    isplitl [Hx]; · iexact Hx
    isplitl [Hy]; · iexact Hy
    isplitl [H00]; · iexact H00
    isplitl [H01]; · iexact H01
    iexact HO
  iintro ⟨Hx, Hy, H00, H01, HO⟩
  iapply (mv_next (m := m) (K := K) c 1 (wq 2) (wq 3) 3 2 6 (by decide) (offx := ![0, 3072]) rfl (pay := fun a b y => k0_pay28 (k0_pay27 a b y)) rfl) $$ [Hx Hy H10 H11 HO]
  · isplitr; · iexact Hctx
    isplitl [Hx]; · iexact Hx
    isplitl [Hy]; · iexact Hy
    isplitl [H10]; · iexact H10
    isplitl [H11]; · iexact H11
    iexact HO
  iintro ⟨Hx, Hy, H10, H11, HO⟩
  iapply (mv_send (m := m) (K := K) c 6 (n := ⟨k0_dev14 c, k0_dev14_lt c⟩) (Fin.ext (k0_dev14_eq c)) (off := ![0, 0]) rfl (pay := k0_pay29 (scl m c)) rfl) $$ [Hy o6 b6 HO]
  · isplitr; · iexact Hctx
    isplitl [Hy]; · iexact Hy
    isplitl [o6]; · iexact o6
    isplitl [b6]; · iexact b6
    iexact HO
  iintro ⟨Hy, o6, HO⟩
  iapply (mv_own (m := m) c _ (offy := ![0, 1024]) rfl (off := k0_off6 c) (k0_off6_eq c) (pay := k0_pay30 (scl m c)) rfl) $$ [Hy Ho]
  · isplitl [Hy]; · iexact Hy
    iexact Ho
  iintro ⟨Hy, Ho⟩
  iapply (mv_recv (m := m) (K := K) c 2 7 (by decide) _ (off := k0_off5 c 3#32) (k0_off5_eq c 2) (pay := k0_pay31) rfl) $$ [i2 Ho HO]
  · isplitr; · iexact Hctx
    isplitl [i2]; · iexact i2
    isplitl [Ho]; · iexact Ho
    iexact HO
  iintro ⟨i2, Ho, HO⟩
  iapply (mv_recv (m := m) (K := K) c 3 7 (by decide) _ (off := k0_off5 c 4#32) (k0_off5_eq c 3) (pay := k0_pay32) rfl) $$ [i3 Ho HO]
  · isplitr; · iexact Hctx
    isplitl [i3]; · iexact i3
    isplitl [Ho]; · iexact Ho
    iexact HO
  iintro ⟨i3, Ho, HO⟩
  iapply (mv_recv (m := m) (K := K) c 4 7 (by decide) _ (off := k0_off5 c 5#32) (k0_off5_eq c 4) (pay := k0_pay33) rfl) $$ [i4 Ho HO]
  · isplitr; · iexact Hctx
    isplitl [i4]; · iexact i4
    isplitl [Ho]; · iexact Ho
    iexact HO
  iintro ⟨i4, Ho, HO⟩
  iapply (mv_recv (m := m) (K := K) c 5 7 (by decide) _ (off := k0_off5 c 6#32) (k0_off5_eq c 5) (pay := k0_pay34) rfl) $$ [i5 Ho HO]
  · isplitr; · iexact Hctx
    isplitl [i5]; · iexact i5
    isplitl [Ho]; · iexact Ho
    iexact HO
  iintro ⟨i5, Ho, HO⟩
  iapply (mv_recv (m := m) (K := K) c 6 7 (by decide) _ (off := k0_off5 c 7#32) (k0_off5_eq c 6) (pay := k0_pay35) rfl) $$ [i6 Ho HO]
  · isplitr; · iexact Hctx
    isplitl [i6]; · iexact i6
    isplitl [Ho]; · iexact Ho
    iexact HO
  iintro ⟨i6, Ho, HO⟩
  iapply (mv_left (m := m) (K := K) c 0) $$ [o0 HO]
  · isplitr; · iexact Hctx
    isplitl [o0]; · iexact o0
    iexact HO
  iintro ⟨o0, HO⟩
  iapply (mv_left (m := m) (K := K) c 1) $$ [o1 HO]
  · isplitr; · iexact Hctx
    isplitl [o1]; · iexact o1
    iexact HO
  iintro ⟨o1, HO⟩
  iapply (mv_left (m := m) (K := K) c 2) $$ [o2 HO]
  · isplitr; · iexact Hctx
    isplitl [o2]; · iexact o2
    iexact HO
  iintro ⟨o2, HO⟩
  iapply (mv_left (m := m) (K := K) c 3) $$ [o3 HO]
  · isplitr; · iexact Hctx
    isplitl [o3]; · iexact o3
    iexact HO
  iintro ⟨o3, HO⟩
  iapply (mv_left (m := m) (K := K) c 4) $$ [o4 HO]
  · isplitr; · iexact Hctx
    isplitl [o4]; · iexact o4
    iexact HO
  iintro ⟨o4, HO⟩
  iapply (mv_left (m := m) (K := K) c 5) $$ [o5 HO]
  · isplitr; · iexact Hctx
    isplitl [o5]; · iexact o5
    iexact HO
  iintro ⟨o5, HO⟩
  iapply (mv_left (m := m) (K := K) c 6) $$ [o6 HO]
  · isplitr; · iexact Hctx
    isplitl [o6]; · iexact o6
    iexact HO
  iintro ⟨o6, HO⟩
  iapply (step_end (F := F) c)
  iapply Hk
  unfold End Idles all7 oP
  icases Ho with ⟨%f, %hf, Ho⟩
  have hf' := done_all m c _ ((by decide : ∀ c o : Dev nD, o ∈ (insert (pe c (bk 6)) (insert (pe c (bk 5)) (insert (pe c (bk 4)) (insert (pe c (bk 3))
    (insert (pe c (bk 2)) (insert c (insert (pe c (bk 1)) (insert (pe c (bk 0)) ∅))))))) : Finset (Dev nD))) c) f hf
  subst hf'
  isplitl [HO]; · iapply (ow_sent c); iexact HO
  isplitl [Hx]; · iexact Hx
  isplitl [Hsx]; · iexact Hsx
  isplitl [Hsw]; · iexact Hsw
  isplitl [Ho]; · iexact Ho
  isplitl [Hy]; · iexists _; iexact Hy
  isplitl [H00 H01 H10 H11]
  · isplitl [H00]; · iexact H00
    isplitl [H01]; · iexact H01
    isplitl [H10] <;> iassumption
  isplitl [Hzb]; · iexact Hzb
  isplitl [o0 o1 o2 o3 o4 o5 o6]
  · isplitl [o0]; · iexact o0
    isplitl [o1]; · iexact o1
    isplitl [o2]; · iexact o2
    isplitl [o3]; · iexact o3
    isplitl [o4]; · iexact o4
    isplitl [o5] <;> iassumption
  · isplitl [i0]; · iexact i0
    isplitl [i1]; · iexact i1
    isplitl [i2]; · iexact i2
    isplitl [i3]; · iexact i3
    isplitl [i4]; · iexact i4
    isplitl [i5] <;> iassumption

end Cert.MeshMatmul
-- ==== Proof.Split.lean ====
/-
# Cutting what a device holds into the pieces its body uses

At launch a device holds each of its buffers whole. The body works on slots, halves and shares; here they are cut, and put
together again.
-/
module

public import proofs.«01_k».proof.Proof.Body

@[expose] public section

set_option maxRecDepth 16384

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## A buffer and its parts -/

section Parts
variable {ℓ : Loc nD τ sig} {I : Type} [Fintype I] [DecidableEq I] (K : I → Finset (Idx ℓ))
  (hd : ∀ a b, a ≠ b → Disjoint (K a) (K b)) (hu : ∀ i, ∃ a, i ∈ K a)
include hd hu

theorem parts_univ : Finset.univ.biUnion K = Finset.univ :=
  Finset.eq_univ_iff_forall.mpr fun i => Finset.mem_biUnion.mpr ((hu i).imp fun a ha => ⟨Finset.mem_univ a, ha⟩)

/-- A buffer at any contents is its parts, each at any contents; -/
theorem parts_split : iprop(∃ f : Buf (Elt F) ℓ, ℓ ↦{fullShare} f) ⊢ (bigSep Finset.univ fun a => iprop(∃ f, ℓ ↦[K a]{fullShare} f) : sProp 𝕄) := by
  iintro ⟨%f, H⟩
  iapply ((Entails.of_eq ((congrArg (fun S => (ℓ ↦[S]{fullShare} f : sProp 𝕄)) (parts_univ K hd hu).symm).trans
    (pointsTo_biUnion Finset.univ K fun a _ b _ => hd a b))).trans
    (bigSep_mono fun a _ => (show (ℓ ↦[K a]{fullShare} f) ⊢ (iprop(∃ f, ℓ ↦[K a]{fullShare} f) : sProp 𝕄) from by iintro H; iexists f; iexact H)))
  iexact H

/-- and the parts make the buffer. -/
theorem parts_join [∀ e, Nonempty (Elt F e)] : (bigSep Finset.univ fun a => iprop(∃ f, ℓ ↦[K a]{fullShare} f) : sProp 𝕄) ⊢ iprop(∃ f : Buf (Elt F) ℓ, ℓ ↦{fullShare} f) := by
  iintro H
  ihave H' := (BI.bigSep_exists_pi Finset.univ fun a (f : Buf (Elt F) ℓ) => (ℓ ↦[K a]{fullShare} f : sProp 𝕄)) $$ H
  icases H' with ⟨%fs, H⟩
  ihave H' := (pointsTo_biUnion_join Finset.univ K fs (fun _ => Classical.arbitrary _) fun a _ b _ => hd a b) $$ H
  icases H' with ⟨%g, -, H⟩
  iexists g
  iapply (Entails.of_eq (congrArg (fun S => (ℓ ↦[S]{fullShare} g : sProp 𝕄)) (parts_univ K hd hu)))
  iexact H

end Parts

/-! ## Slots -/

theorem mem_slot {u : Fin 7} {i : S7x512x1024.Idx} : i ∈ (rSlot u).view.set ↔ (i 0).val = u.val := by
  have h : (rSlot u).view.set = (slotR u).set :=
    (View.set_reshape _ _).trans (View.set_slice_whole cc0_scratch3 (slotR u))
  have h1 : (i 1).val < 512 := (i 1).isLt
  have h2 : (i 2).val < 1024 := (i 2).isLt
  rw [h, Rect.mem_set_unit]
  constructor
  · intro H
    have H0 : u.val ≤ (i 0).val ∧ (i 0).val < u.val + 1 := H 0
    omega
  · intro H a
    match a with
    | ⟨0, _⟩ => exact (⟨by omega, by omega⟩ : u.val ≤ (i 0).val ∧ (i 0).val < u.val + 1)
    | ⟨1, _⟩ => exact (⟨by omega, by omega⟩ : 0 ≤ (i 1).val ∧ (i 1).val < 0 + 512)
    | ⟨2, _⟩ => exact (⟨by omega, by omega⟩ : 0 ≤ (i 2).val ∧ (i 2).val < 0 + 1024)

theorem slots_disjoint (a b : Fin 7) (h : a ≠ b) : Disjoint (rSlot a).view.set (rSlot b).view.set :=
  Finset.disjoint_left.mpr fun i ha hb => h (Fin.ext ((mem_slot.mp ha).symm.trans (mem_slot.mp hb)))
theorem slots_cover (i : S7x512x1024.Idx) : ∃ u, i ∈ (rSlot u).view.set := ⟨⟨(i 0).val, (i 0).isLt⟩, mem_slot.mpr rfl⟩

theorem recv_split (c : Dev nD) : iprop(∃ f : Vec F S7x512x1024 .bf16, rM.view.loc (c : Thread nD τ) ↦{fullShare} f)
    ⊢ (bigSep Finset.univ fun u => iprop(∃ f, rPts c u f) : sProp 𝕄) :=
  parts_split (ℓ := rM.view.loc (c : Thread nD τ)) (fun u => (rSlot u).view.set) slots_disjoint slots_cover
theorem recv_join (c : Dev nD) : (bigSep Finset.univ fun u => iprop(∃ f, rPts c u f) : sProp 𝕄)
    ⊢ iprop(∃ f : Vec F S7x512x1024 .bf16, rM.view.loc (c : Thread nD τ) ↦{fullShare} f) :=
  parts_join (ℓ := rM.view.loc (c : Thread nD τ)) (fun u => (rSlot u).view.set) slots_disjoint slots_cover
theorem send_split (c : Dev nD) : iprop(∃ f : Vec F S7x512x1024 .bf16, sM.view.loc (c : Thread nD τ) ↦{fullShare} f)
    ⊢ (bigSep Finset.univ fun u => iprop(∃ f, sPts c u f) : sProp 𝕄) :=
  parts_split (ℓ := sM.view.loc (c : Thread nD τ)) (fun u => (sSlot u).view.set) slots_disjoint slots_cover
theorem send_join (c : Dev nD) : (bigSep Finset.univ fun u => iprop(∃ f, sPts c u f) : sProp 𝕄)
    ⊢ iprop(∃ f : Vec F S7x512x1024 .bf16, sM.view.loc (c : Thread nD τ) ↦{fullShare} f) :=
  parts_join (ℓ := sM.view.loc (c : Thread nD τ)) (fun u => (sSlot u).view.set) slots_disjoint slots_cover

/-! ## Halves and shares -/

abbrev halfSet (a : Fin 2 × Fin 2) : Finset S2x1024x2048.Idx := (vHalf a.1 a.2).view.set

theorem half_disjoint (a b : Fin 2 × Fin 2) (h : a ≠ b) : Disjoint (halfSet a) (halfSet b) :=
  Finset.disjoint_left.mpr fun i ha hb => by
    obtain ⟨a0, a1, a2⟩ := mem_half.mp ha
    obtain ⟨b0, b1, b2⟩ := mem_half.mp hb
    exact h (Prod.ext (Fin.ext (a0.symm.trans b0)) (Fin.ext (by omega)))
theorem half_cover (i : S2x1024x2048.Idx) : ∃ a, i ∈ halfSet a := by
  have h : (i 2).val < 2048 := (i 2).isLt
  have hj : (i 2).val / 1024 < 2 := by omega
  refine ⟨(⟨(i 0).val, (i 0).isLt⟩, ⟨(i 2).val / 1024, hj⟩), mem_half.mpr ⟨rfl, ?_, ?_⟩⟩
  · show 1024 * ((i 2).val / 1024) ≤ (i 2).val; omega
  · show (i 2).val < 1024 * ((i 2).val / 1024) + 1024; omega

theorem bigSep_pairs (Φ : Fin 2 × Fin 2 → sProp 𝕄) : bigSep Finset.univ Φ = iprop(Φ (0, 0) ∗ Φ (0, 1) ∗ Φ (1, 0) ∗ Φ (1, 1)) := by
  rw [bigSep_univ_eq_bigSepL [(0, 0), (0, 1), (1, 0), (1, 1)] (by decide) (by decide)]; rfl
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl
theorem all7_eq (Φ : Fin 7 → sProp 𝕄) : all7 Φ = bigSep Finset.univ Φ := by
  rw [bigSep_univ_eq_bigSepL [0, 1, 2, 3, 4, 5, 6] (by decide) (by decide)]; rfl

/-- The semaphores of the copies of `w`, at zero. -/
def cpyZ (c : Dev nD) : sProp 𝕄 :=
  iprop(semVal ((c : Thread nD τ), .dma (cpySem 0 0)) 0 ∗ semVal ((c : Thread nD τ), .dma (cpySem 0 1)) 0
    ∗ semVal ((c : Thread nD τ), .dma (cpySem 1 0)) 0 ∗ semVal ((c : Thread nD τ), .dma (cpySem 1 1)) 0)
/-- The buffer for `w` at any contents. -/
def vAny (c : Dev nD) : sProp 𝕄 := iprop(∃ f : Vec F S2x1024x2048 .f32, vM.view.loc (c : Thread nD τ) ↦{fullShare} f)

theorem halves_split (c : Dev nD) : vAny (F := F) c
    ⊢ iprop((∃ f, vP c 0 0 f) ∗ (∃ f, vP c 0 1 f) ∗ (∃ f, vP c 1 0 f) ∗ (∃ f, vP c 1 1 f)) :=
  (parts_split (ℓ := vM.view.loc (c : Thread nD τ)) halfSet half_disjoint half_cover).trans (Entails.of_eq (bigSep_pairs _))
theorem halves_join (c : Dev nD) : iprop((∃ f, vP c 0 0 f) ∗ (∃ f, vP c 0 1 f) ∗ (∃ f, vP c 1 0 f) ∗ (∃ f, vP c 1 1 f)) ⊢ vAny (F := F) c :=
  (Entails.of_eq (bigSep_pairs fun a => iprop(∃ f, vP (F := F) c a.1 a.2 f)).symm).trans
    (parts_join (ℓ := vM.view.loc (c : Thread nD τ)) halfSet half_disjoint half_cover)

variable (m : (ℓ : Loc nD τ sig) → Buf (Elt F) ℓ)

theorem w_split (c : Dev nD) : wP m c fullShare
    ⊢ iprop(wP m c (shareDrop fullShare 4) ∗ wP m c (wq 0) ∗ wP m c (wq 1) ∗ wP m c (wq 2) ∗ wP m c (wq 3)) :=
  (pointsTo_toks_split fullShare 4).trans (sep_mono_right (Entails.of_eq (bigSep_four _)))
theorem w_join (c : Dev nD) : iprop(wP m c (shareDrop fullShare 4) ∗ wP m c (wq 0) ∗ wP m c (wq 1) ∗ wP m c (wq 2) ∗ wP m c (wq 3))
    ⊢ wP m c fullShare :=
  (sep_mono_right (Entails.of_eq (bigSep_four fun i => wP m c (wq i)).symm)).trans (pointsTo_toks_join fullShare 4)

theorem idles_in (c : Dev nD) : iprop(vAny (F := F) c ∗ cpyZ (F := F) c ∗ wP m c fullShare) ⊢ iprop(Idles m c ∗ wP m c (shareDrop fullShare 4)) := by
  iintro ⟨Hv, Hs, Hw⟩
  ihave Hv' := (halves_split (F := F) c) $$ Hv
  ihave Hw' := (w_split m c) $$ Hw
  unfold cpyZ Idles Idle
  icases Hv' with ⟨V0, V1, V2, V3⟩
  icases Hs with ⟨S0, S1, S2, S3⟩
  icases Hw' with ⟨W, W0, W1, W2, W3⟩
  isplitr [W]
  · isplitl [V0 S0 W0]
    · isplitl [V0]; · iexact V0
      isplitl [S0] <;> iassumption
    isplitl [V1 S1 W1]
    · isplitl [V1]; · iexact V1
      isplitl [S1] <;> iassumption
    isplitl [V2 S2 W2]
    · isplitl [V2]; · iexact V2
      isplitl [S2] <;> iassumption
    isplitl [V3]; · iexact V3
    isplitl [S3] <;> iassumption
  iexact W

theorem idles_out (c : Dev nD) : iprop(Idles m c ∗ wP m c (shareDrop fullShare 4)) ⊢ iprop(vAny (F := F) c ∗ cpyZ (F := F) c ∗ wP m c fullShare) := by
  unfold cpyZ Idles Idle
  iintro ⟨⟨⟨V0, S0, W0⟩, ⟨V1, S1, W1⟩, ⟨V2, S2, W2⟩, ⟨V3, S3, W3⟩⟩, W⟩
  isplitl [V0 V1 V2 V3]
  · iapply (halves_join (F := F) c)
    isplitl [V0]; · iexact V0
    isplitl [V1]; · iexact V1
    isplitl [V2] <;> iassumption
  isplitl [S0 S1 S2 S3]
  · isplitl [S0]; · iexact S0
    isplitl [S1]; · iexact S1
    isplitl [S2] <;> iassumption
  iapply (w_join m c)
  isplitl [W]; · iexact W
  isplitl [W0]; · iexact W0
  isplitl [W1]; · iexact W1
  isplitl [W2] <;> iassumption

/-! ## The tokens and positions of one device -/

/-- The tokens of the payments device `c` makes. -/
def pays (c : Dev nD) : sProp 𝕄 :=
  iprop((bigSep Finset.univ fun u => dutyTok ER (barCell (pe c u)) 0 (bk u)) ∗ (bigSep Finset.univ fun u => dutyTok ER (sndCell c u) 0 0)
    ∗ bigSep Finset.univ fun u => dutyTok ER (rcvCell (pe c u) u) 0 0)
/-- Its positions at its cells. -/
def ats (c : Dev nD) : sProp 𝕄 :=
  iprop(atPos ER (barCell c) 0 ∅ 0 ∗ (bigSep Finset.univ fun u => atPos ER (sndCell c u) 0 ∅ 0) ∗ bigSep Finset.univ fun u => atPos ER (rcvCell c u) 0 ∅ 0)
/-- The credits it waits with. -/
def crs (c : Dev nD) : sProp 𝕄 := iprop(cred (tallyAt (barCell c) () 7) ∗ bigSep Finset.univ fun u => cred (tallyAt (rcvCell c u) () NT))

/-- The shifts, each exchanged with the one back. -/
def bkE : Fin 7 ≃ Fin 7 := ⟨bk, bk, bk_bk, bk_bk⟩

/-- What the body takes per shift, from the tokens, positions, credits and slots. -/
theorem shifts_in (c : Dev nD) :
    iprop(pays (F := F) c ∗ ats (F := F) c ∗ crs (F := F) c ∗ (bigSep Finset.univ fun u => iprop(∃ f, sPts (F := F) c u f))
        ∗ bigSep Finset.univ fun u => iprop(∃ f, rPts (F := F) c u f))
      ⊢ iprop((cred (tallyAt (barCell c) () 7) ∗ atPos ER (barCell c) 0 ∅ 0) ∗ all7 (Sig (F := F) c) ∗ all7 (Out (F := F) c) ∗ all7 (Inn (F := F) c)) := by
  rw [all7_eq, all7_eq, all7_eq]
  unfold Sig Out Inn pays ats crs
  rw [bigSep_sep', bigSep_sep', bigSep_sep', bigSep_sep', bigSep_sep', bigSep_univ_equiv bkE (fun u => (iprop(∃ f, rPts (F := F) c u f) : sProp 𝕄))]
  iintro ⟨⟨TB, TS, TR⟩, ⟨AB, AS, AR⟩, ⟨CB, CR⟩, S, R⟩
  isplitl [CB AB]
  · isplitl [CB] <;> iassumption
  isplitl [TB R]
  · isplitl [TB]; · iexact TB
    iexact R
  isplitl [S TS TR AS]
  · isplitl [S]; · iexact S
    isplitl [TS]; · iexact TS
    isplitl [TR] <;> iassumption
  isplitl [CR] <;> iassumption

/-- What the body leaves per shift. -/
theorem shifts_out (c : Dev nD) : iprop(all7 (Left (F := F) c) ∗ all7 (Recd (F := F) c))
    ⊢ iprop(((bigSep Finset.univ fun u => semVal (sndCell c u) 0) ∗ bigSep Finset.univ fun u => semVal (rcvCell c u) 0)
        ∗ (∃ f : Vec F S7x512x1024 .bf16, sM.view.loc (c : Thread nD τ) ↦{fullShare} f)
        ∗ ∃ f : Vec F S7x512x1024 .bf16, rM.view.loc (c : Thread nD τ) ↦{fullShare} f) := by
  rw [all7_eq, all7_eq]
  unfold Left Recd
  rw [bigSep_sep', bigSep_sep']
  iintro ⟨⟨ZS, S⟩, ZR, R⟩
  isplitl [ZS ZR]
  · isplitl [ZS] <;> iassumption
  isplitl [S]
  · iapply (send_join (F := F) c); iexact S
  iapply (recv_join (F := F) c); iexact R

end Cert.MeshMatmul
-- ==== Proof.Launch.lean ====
/-
# The launch

Every device's body is `body_run`; here the cells, tokens and credits it starts from are made and dealt out, and the run of
the whole program follows: every device's result ends at `outC`, the arguments as they were, every counter at zero.
-/
module

public import proofs.«01_k».proof.Proof.Split
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value

@[expose] public section

set_option maxRecDepth 16384

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after its body -/

/-- The two semaphores of the scratch arrays that the kernel never uses. -/
def spareZ (c : Dev nD) : sProp 𝕄 :=
  iprop(semVal ((c : Thread nD τ), .dma (⟨8, by decide⟩ : DmaSem sig)) 0 ∗ semVal ((c : Thread nD τ), .dma (⟨16, by decide⟩ : DmaSem sig)) 0)
/-- The send buffer, and the receive buffer, at any contents. -/
def sAny (c : Dev nD) : sProp 𝕄 := iprop(∃ f : Vec F S7x512x1024 .bf16, sM.view.loc (c : Thread nD τ) ↦{fullShare} f)
def rAny (c : Dev nD) : sProp 𝕄 := iprop(∃ f : Vec F S7x512x1024 .bf16, rM.view.loc (c : Thread nD τ) ↦{fullShare} f)

def Start (c : Dev nD) : sProp 𝕄 :=
  iprop(∃ K, ctx m K ∗ pays (F := F) c ∗ ats (F := F) c ∗ crs (F := F) c ∗ cpyZ (F := F) c ∗ spareZ (F := F) c ∗ wP m c fullShare)

def Φ₀ (c : Dev nD) : sProp 𝕄 := iprop(Start m c ∗ vAny (F := F) c ∗ (∃ Y, yP (F := F) c Y) ∗ sAny (F := F) c ∗ rAny (F := F) c)
def Φ₁ (c : Dev nD) : sProp 𝕄 :=
  iprop(wP m c fullShare ∗ semVal (barCell c) 0
    ∗ (cpyZ (F := F) c ∗ spareZ (F := F) c ∗ (bigSep Finset.univ fun u => semVal (sndCell c u) 0) ∗ bigSep Finset.univ fun u => semVal (rcvCell c u) 0)
    ∗ vAny (F := F) c ∗ (∃ Y, yP (F := F) c Y) ∗ sAny (F := F) c ∗ rAny (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => sxC m c
    | ⟨2, _⟩ => swC m c
    | ⟨3, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The one block of a window is its whole array -/

theorem blk_x (X : Vec F S512x4096 .f32) : ((cfg0.win (0 : Fin 4)).blk t0_0).view.read (Elt F) X = X := by
  funext i; show X _ = X i; congr 1
  refine idx2_ext ?_ ?_
  · show 0 * 512 + 1 * (i 0).val = (i 0).val; omega
  · show 0 * 4096 + 1 * (i 1).val = (i 1).val; omega
theorem blk_sx (X : Vec F S1 .f32) : ((cfg0.win (1 : Fin 4)).blk t0_0).view.read (Elt F) X = X :=
  funext fun i => congrArg X ((idx1 _).trans (idx1 i).symm)
theorem blk_sw (X : Vec F S1 .f32) : ((cfg0.win (2 : Fin 4)).blk t0_0).view.read (Elt F) X = X :=
  funext fun i => congrArg X ((idx1 _).trans (idx1 i).symm)
theorem emb_o (i : S4096x1024.Idx) : ((cfg0.win (3 : Fin 4)).blk t0_0).view.emb i = i := by
  refine idx2_ext ?_ ?_
  · show 0 * 4096 + 1 * (i 0).val = (i 0).val; omega
  · show 0 * 1024 + 1 * (i 1).val = (i 1).val; omega
theorem blk_o (X : Vec F S4096x1024 .f32) : ((cfg0.win (3 : Fin 4)).blk t0_0).view.read (Elt F) X = X :=
  funext fun i => congrArg X (emb_o i)

theorem before_x (c : Dev nD) (d) : (dats m ρ 0 c).before (0 : Fin 4) t0_0 d = xC m c := by
  unfold Dat.before; rw [if_pos (fetch0_0 t0_0)]; exact blk_x (xC m c)
theorem before_sx (c : Dev nD) (d) : (dats m ρ 0 c).before (1 : Fin 4) t0_0 d = sxC m c := by
  unfold Dat.before; rw [if_pos (fetch0_1 t0_0)]; exact blk_sx (sxC m c)
theorem before_sw (c : Dev nD) (d) : (dats m ρ 0 c).before (2 : Fin 4) t0_0 d = swC m c := by
  unfold Dat.before; rw [if_pos (fetch0_2 t0_0)]; exact blk_sw (swC m c)

/-- The array after the run. -/
def finalA (c : Dev nD) (w : Fin cfg0.W) : Buf (Elt F) ((cfg0.win w).arr.view.loc (c : Thread nD τ)) := (dats m ρ 0 c).arrAt w cfg0.N

theorem finalA_x (c : Dev nD) : finalA m ρ c (0 : Fin 4) = m ((c : Thread nD τ).loc main_arg0) := (dats m ρ 0 c).arrAt_in (0 : Fin 4) rfl _
theorem finalA_sx (c : Dev nD) : finalA m ρ c (1 : Fin 4) = m ((c : Thread nD τ).loc main_arg2) := (dats m ρ 0 c).arrAt_in (1 : Fin 4) rfl _
theorem finalA_sw (c : Dev nD) : finalA m ρ c (2 : Fin 4) = m ((c : Thread nD τ).loc main_arg3) := (dats m ρ 0 c).arrAt_in (2 : Fin 4) rfl _
theorem finalA_o (c : Dev nD) : finalA m ρ c (3 : Fin 4) = outC m c :=
  (dats m ρ 0 c).arrAt_eq_of_cover (3 : Fin 4) (outC m c)
    (fun t _ => by rw [fin_N0 t]; exact (blk_o (outC m c)).symm)
    (fun i => ⟨t0_0, flush0_3 _, Finset.mem_map.mpr ⟨i, Finset.mem_univ _, emb_o i⟩⟩)

/-! ## The body as the pipeline calls it -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ ∗ stg c cc0_stg0_0 (xC m c) ∗ stg c cc0_stg1_0 (sxC m c) ∗ stg c cc0_stg2_0 (swC m c)
    ∗ stg c cc0_stg3_0 (outC m c))

/-- What the device owes when its body starts, and when it ends. -/
theorem owes_in (c : Dev nD) : (dats m ρ 0 c).owesAt () t0_0.castSucc ⊢ ow (F := F) c (OB c 0) := by
  unfold Dat.owesAt Pipeline.owesWithin ow
  rw [show (dats m ρ 0 c).owed t0_0.castSucc = OB c 0 from rfl]
  iintro ⟨%W, -, H⟩
  iexists W; iexact H
theorem owes_out (c : Dev nD) : ow (F := F) c 0 ⊢ (dats m ρ 0 c).owesAt () t0_0.succ := by
  unfold Dat.owesAt Pipeline.owesWithin ow
  rw [show (dats m ρ 0 c).owed t0_0.succ = 0 from rfl]
  iintro ⟨%W, H⟩
  iexists W
  isplitr
  · ipureintro; exact fun _ _ => Or.inl trivial
  iexact H

/-- The input window's staging buffer holds `X`. -/
theorem stg_in (c : Dev nD) (b : Ref sig .tc) {B : b.ty.Contents (Elt F) → b.ty.Contents (Elt F)} {X : b.ty.Contents (Elt F)} (hB : ∀ d, B d = X) :
    iprop(∃ d, stg c b (B d)) ⊢ (((c : Thread nD τ).loc b) ↦{fullShare} X : sProp 𝕄) := by
  iintro ⟨%d, %f, %hf, H⟩
  rw [hf, hB d]; iexact H
theorem stg_any (c : Dev nD) (b : Ref sig .tc) {B : b.ty.Contents (Elt F) → b.ty.Contents (Elt F)} :
    iprop(∃ d, stg c b (B d)) ⊢ (iprop(∃ f, ((c : Thread nD τ).loc b) ↦{fullShare} f) : sProp 𝕄) := by
  iintro ⟨%d, %f, -, H⟩
  iexists f; iexact H
theorem stg_out (c : Dev nD) (b : Ref sig .tc) (X : b.ty.Contents (Elt F)) : (((c : Thread nD τ).loc b) ↦{fullShare} X : sProp 𝕄) ⊢ stg c b X := by
  iintro H
  iexists X
  isplitr
  · ipureintro; rfl
  iexact H

theorem out_any (c : Dev nD) : (iprop(∃ f, ((c : Thread nD τ).loc cc0_stg3_0) ↦{fullShare} f) : sProp 𝕄) ⊢ oP m c ∅ := by
  unfold oP
  iintro ⟨%f, H⟩
  iexists f
  isplitr
  · ipureintro; intro i hi; exact absurd hi (Finset.notMem_empty _)
  iexact H

set_option maxHeartbeats 1000000 in
theorem sound_body (c : Dev nD) : bodyPre m ρ c ⊢ run PUnit c (theBody (F := F)) fun _ => bodyPost m ρ c := by
  unfold bodyPre Φ₀ Start sAny rAny
  iintro ⟨⟨⟨%K, #Hctx, Hp, Ha, Hc, Hz, Hsp, Hw⟩, Hv, Hy, Hs, Hr⟩, Ho, Hx, Hsx, Hsw, Hout⟩
  ihave Ho := (owes_in m ρ c) $$ Ho
  ihave Hx := (stg_in c cc0_stg0_0 (before_x m ρ c)) $$ Hx
  ihave Hsx := (stg_in c cc0_stg1_0 (before_sx m ρ c)) $$ Hsx
  ihave Hsw := (stg_in c cc0_stg2_0 (before_sw m ρ c)) $$ Hsw
  ihave Hout := ((stg_any c cc0_stg3_0).trans (out_any m c)) $$ Hout
  ihave Hs := (send_split (F := F) c) $$ Hs
  ihave Hr := (recv_split (F := F) c) $$ Hr
  ihave Hi := (idles_in m c) $$ [Hv Hz Hw]
  · isplitl [Hv]; · iexact Hv
    isplitl [Hz] <;> iassumption
  icases Hi with ⟨Hi, Hw⟩
  ihave Hsh := (shifts_in (F := F) c) $$ [Hp Ha Hc Hs Hr]
  · isplitl [Hp]; · iexact Hp
    isplitl [Ha]; · iexact Ha
    isplitl [Hc]; · iexact Hc
    isplitl [Hs] <;> iassumption
  icases Hsh with ⟨Hb, H1, H2, H3⟩
  iapply (body_run (m := m) (K := K) c) $$ [Ho Hx Hsx Hsw Hout Hy Hi Hb H1 H2 H3]
  · unfold Begin
    isplitr; · iexact Hctx
    isplitl [Ho]; · iexact Ho
    isplitl [Hx]; · unfold xP; iexact Hx
    isplitl [Hsx]; · unfold sxP; iexact Hsx
    isplitl [Hsw]; · unfold swP; iexact Hsw
    isplitl [Hout]; · iexact Hout
    isplitl [Hy]; · iexact Hy
    isplitl [Hi]; · iexact Hi
    isplitl [Hb]; · iexact Hb
    isplitl [H1]; · iexact H1
    isplitl [H2] <;> iassumption
  unfold End
  iintro ⟨Ho, Hx, Hsx, Hsw, Hout, Hy, Hi, Hb, Hl, Hr⟩
  ihave Hi := (idles_out m c) $$ [Hi Hw]
  · isplitl [Hi] <;> iassumption
  icases Hi with ⟨Hv, Hz, Hw⟩
  ihave Hsh := (shifts_out (F := F) c) $$ [Hl Hr]
  · isplitl [Hl] <;> iassumption
  icases Hsh with ⟨Hzz, Hs, Hr⟩
  unfold bodyPost Φ₁ sAny rAny
  isplitl [Hw Hb Hz Hsp Hzz Hv Hy Hs Hr]
  · isplitl [Hw]; · iexact Hw
    isplitl [Hb]; · iexact Hb
    isplitl [Hz Hsp Hzz]
    · isplitl [Hz]; · iexact Hz
      isplitl [Hsp]; · iexact Hsp
      iexact Hzz
    isplitl [Hv]; · iexact Hv
    isplitl [Hy]; · iexact Hy
    isplitl [Hs] <;> iassumption
  isplitl [Ho]; · iapply (owes_out m ρ c); iexact Ho
  isplitl [Hx]; · iapply (stg_out c cc0_stg0_0 (xC m c)); unfold xP; iexact Hx
  isplitl [Hsx]; · iapply (stg_out c cc0_stg1_0 (sxC m c)); unfold sxP; iexact Hsx
  isplitl [Hsw]; · iapply (stg_out c cc0_stg2_0 (swC m c)); unfold swP; iexact Hsw
  iapply (stg_out c cc0_stg3_0 (outC m c)); iexact Hout

/-- The body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

end Cert.MeshMatmul
-- ==== Proof.Run.lean ====
/-
# The run of the whole program

The devices' cells are made from their semaphore counters; each device is dealt the tokens of the payments it makes and the
credits it waits with; then every device runs its body.
-/
module

public import proofs.«01_k».proof.Proof.Launch
public import Idealize.ShloMosaic.Lib.Pipeline.CollectiveSegs

@[expose] public section

set_option maxRecDepth 16384

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The copies' four, the two never used, then the send and receive semaphores in the order of `csem`. -/
def osem (k : Fin 20) : SemLoc sig :=
  if k.val < 4 then .dma (cpySem ⟨k.val / 2 % 2, Nat.mod_lt _ (by decide)⟩ ⟨k.val % 2, Nat.mod_lt _ (by decide)⟩)
  else if k.val = 4 then .dma (⟨8, by decide⟩ : DmaSem sig) else if k.val = 5 then .dma (⟨16, by decide⟩ : DmaSem sig)
  else csem ⟨k.val - 5, by omega⟩

theorem ownSemFacts : Pipeline.OwnSemFacts cfg0.spec osem := by decide +kernel

theorem bigSep_two {I : Type} [DecidableEq I] {s t : Finset I} (h : Disjoint s t) (Φ : I → sProp 𝕄) :
    bigSep (s ∪ t) Φ = iprop(bigSep s Φ ∗ bigSep t Φ) := BI.bigSep_union h

abbrev eS : Fin 7 ↪ Fin 15 := ⟨kS, by decide⟩
abbrev eR : Fin 7 ↪ Fin 15 := ⟨kR, by decide⟩
abbrev oS : Fin 7 ↪ Fin 20 := ⟨fun u => ⟨6 + u.val, by omega⟩, by decide⟩
abbrev oR : Fin 7 ↪ Fin 20 := ⟨fun u => ⟨13 + u.val, by omega⟩, by decide⟩

/-- Something for each of a device's cells, by kind. -/
theorem cells_eq (Φ : GSem nD τ sig → sProp 𝕄) (c : Dev nD) :
    (bigSep Finset.univ fun k : Fin 15 => Φ (kcell (c, k)))
      = iprop(Φ (barCell c) ∗ (bigSep Finset.univ fun u => Φ (sndCell c u)) ∗ bigSep Finset.univ fun u => Φ (rcvCell c u)) := by
  rw [show (Finset.univ : Finset (Fin 15)) = {kB} ∪ (Finset.univ.map eS ∪ Finset.univ.map eR) by decide,
    bigSep_two (by decide), bigSep_two (by decide), bigSep_singleton, BI.bigSep_map, BI.bigSep_map,
    bigSep_congr fun u _ => (congrArg Φ (kcell_S c u) : Φ (kcell (c, eS u)) = _), bigSep_congr fun u _ => (congrArg Φ (kcell_R c u) : Φ (kcell (c, eR u)) = _)]
  rfl

theorem osem_S (u : Fin 7) : osem (oS u) = .dma (sndSem u) := by revert u; decide
theorem osem_R (u : Fin 7) : osem (oR u) = .dma (rcvSem u) := by revert u; decide

theorem ownSems0_eq (c : Dev nD) : (Pipeline.ownSems0 (Ix := Unit) (Name := ℕ) (U := UU) (Lvl := ℕ) (Val := Elt F) (τ := τ) osem c : sProp 𝕄)
    = iprop(cpyZ (F := F) c ∗ spareZ (F := F) c ∗ (bigSep Finset.univ fun u => semVal (sndCell c u) 0) ∗ bigSep Finset.univ fun u => semVal (rcvCell c u) 0) := by
  unfold Pipeline.ownSems0
  rw [show (Finset.univ : Finset (Fin 20)) = {0, 1, 2, 3} ∪ ({4, 5} ∪ (Finset.univ.map oS ∪ Finset.univ.map oR)) by decide,
    bigSep_two (by decide), bigSep_two (by decide), bigSep_two (by decide), BI.bigSep_map, BI.bigSep_map,
    bigSep_congr fun u _ => congrArg (fun s => (semVal ((c : Thread nD τ), s) 0 : sProp 𝕄)) (osem_S u),
    bigSep_congr fun u _ => congrArg (fun s => (semVal ((c : Thread nD τ), s) 0 : sProp 𝕄)) (osem_R u),
    bigSep_eq_bigSepL_of_eq [0, 1, 2, 3] (by decide) (by decide), bigSep_eq_bigSepL_of_eq [4, 5] (by decide) (by decide)]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_in (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ cpyZ (F := F) c ∗ spareZ (F := F) c) : sProp 𝕄) := by
  rw [ownSems0_eq, unscopedSems0_eq, cells_eq fun g => semVal g 0]
  iintro ⟨⟨Hz, Hsp, HS, HR⟩, HB⟩
  isplitl [HB HS HR]
  · isplitl [HB]; · iexact HB
    isplitl [HS] <;> iassumption
  isplitl [Hz] <;> iassumption

/-! ## The launch element -/

theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := (by decide +kernel : ∀ k k', csem k = csem k' → k = k') k k' (congrArg Prod.snd h)
  rw [h1, h2]
def ringCells : Finset (GSem nD τ sig) := Finset.univ.map ⟨kcell, kcell_injective⟩

/-- The duties of a device's own cells: its barrier cell's seven, one for each send cell, one for each receive cell. -/
abbrev Duty : Type := Fin 7 ⊕ Fin 7 ⊕ Fin 7
def dutySem : Duty → SemLoc sig
  | .inl _ => .reg barS
  | .inr (.inl u) => .dma (sndSem u)
  | .inr (.inr u) => .dma (rcvSem u)
def dutyNo : Duty → Fin 7
  | .inl u => u
  | .inr _ => 0
abbrev tokOf (p : Dev nD × Duty) : GSem nD τ sig × ℕ × Fin 7 := (((p.1 : Thread nD τ), dutySem p.2), 0, dutyNo p.2)

theorem tokOf_injective : Function.Injective (tokOf : Dev nD × Duty → GSem nD τ sig × ℕ × Fin 7) := by
  rintro ⟨c, j⟩ ⟨c', j'⟩ h
  have h1 : c = c' := congrArg (fun x : GSem nD τ sig × ℕ × Fin 7 => x.1.1.1) h
  have h2 : j = j' := (by decide +kernel : ∀ j j' : Duty, (dutySem j, dutyNo j) = (dutySem j', dutyNo j') → j = j') j j'
    (congrArg (fun x : GSem nD τ sig × ℕ × Fin 7 => (x.1.2, x.2.2)) h)
  rw [h1, h2]
def ringToks : Finset (GSem nD τ sig × ℕ × Fin 7) := Finset.univ.map ⟨tokOf, tokOf_injective⟩

def u₀ : UU := (initOf (Pipeline.cells cfgs cellOf_inj) (Pipeline.launchToks cfgs cellOf_inj), (initOf ringCells ringToks, 1))

/-- The tokens of device `c`'s own cells. -/
def toks (c : Dev nD) : sProp 𝕄 :=
  iprop((bigSep Finset.univ fun u => dutyTok ER (barCell c) 0 u) ∗ (bigSep Finset.univ fun u => dutyTok ER (sndCell c u) 0 0)
    ∗ bigSep Finset.univ fun u => dutyTok ER (rcvCell c u) 0 0)

def G (c : Dev nD) : sProp 𝕄 :=
  iprop((bigSep Finset.univ fun k : Fin 15 => roundState ER (rd m) (kcell (c, k)) 0)
    ∗ (bigSep Finset.univ fun k : Fin 15 => iprop(atPos ER (kcell (c, k)) 0 ∅ 0 ∗ reached ER (kcell (c, k)) 0)) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [BI.bigSep_map, bigSep_univ_prod]; rfl
  have hT : bigSep ringToks (fun x => (dutyTok ER x.1 x.2.1 x.2.2 : sProp 𝕄)) = bigSep Finset.univ fun c : Dev nD => toks c := by
    unfold ringToks; rw [BI.bigSep_map, bigSep_univ_prod]
    exact bigSep_congr fun c _ => by unfold toks; rw [BI.bigSep_univ_sum, BI.bigSep_univ_sum]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells made and the tokens dealt -/

/-- A device's cells made from its counters, its own six other counters kept. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks (F := F) c
          ∗ cpyZ (F := F) c ∗ spareZ (F := F) c) := by
  unfold G
  iintro ⟨Hos, Hus, Hst, Hat, Htok⟩
  ihave Hv := (sems_in (F := F) c) $$ [Hos Hus]
  · isplitl [Hos] <;> iassumption
  icases Hv with ⟨Hv, Hz⟩
  imod (show iprop((bigSep Finset.univ fun k : Fin 15 => semVal (kcell (c, k)) 0) ∗ bigSep Finset.univ fun k : Fin 15 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The invariants and that all cells have reached round 0. -/
def records (K : Dev nD × Fin 15 → ℕ) : sProp 𝕄 :=
  iprop((bigSep Finset.univ fun p => cellInv ER (rd m) (K p) (kcell p)) ∗ bigSep Finset.univ fun p : Dev nD × Fin 15 => reached ER (kcell p) 0)
instance records_persistent (K : Dev nD × Fin 15 → ℕ) : BI.Persistent (records m K) := by unfold records; infer_instance

/-- What stays with device `c`. -/
def lin (c : Dev nD) : sProp 𝕄 := iprop(pays (F := F) c ∗ ats (F := F) c ∗ cpyZ (F := F) c ∗ spareZ (F := F) c)
def G' (c : Dev nD) : sProp 𝕄 := iprop(∃ K, records m K ∗ lin (F := F) c)

/-- A barrier duty of one device is the payment of another, and so is a receive duty. -/
def turnB : Dev nD × Fin 7 ≃ Dev nD × Fin 7 where
  toFun p := (pe p.1 p.2, bk p.2)
  invFun p := (pe p.1 p.2, bk p.2)
  left_inv p := Prod.ext (pe_bk _ _) (bk_bk _)
  right_inv p := Prod.ext (pe_bk _ _) (bk_bk _)
def turnR : Dev nD × Fin 7 ≃ Dev nD × Fin 7 where
  toFun p := (pe p.1 p.2, p.2)
  invFun p := (pe p.1 (bk p.2), p.2)
  left_inv p := Prod.ext (pe_bk _ _) rfl
  right_inv p := Prod.ext (pe_bk' _ _) rfl

theorem turned (e : Dev nD × Fin 7 ≃ Dev nD × Fin 7) (Φ : Dev nD × Fin 7 → sProp 𝕄) :
    (bigSep Finset.univ fun c => bigSep Finset.univ fun u => Φ (c, u)) = bigSep Finset.univ fun c => bigSep Finset.univ fun u => Φ (e (c, u)) := by
  rw [← bigSep_univ_prod, bigSep_univ_equiv e, bigSep_univ_prod]

theorem toks_around : (bigSep Finset.univ fun c : Dev nD => (toks c : sProp 𝕄)) ⊢ bigSep Finset.univ fun c : Dev nD => pays c := by
  unfold toks pays
  rw [bigSep_sep', bigSep_sep', bigSep_sep', bigSep_sep',
    turned turnB (fun p => (dutyTok ER (barCell p.1) 0 p.2 : sProp 𝕄)), turned turnR (fun p => (dutyTok ER (rcvCell p.1 p.2) 0 0 : sProp 𝕄))]
  exact Entails.refl _

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem lin_join :
    iprop((bigSep Finset.univ fun c : Dev nD => pays c) ∗ (bigSep Finset.univ fun c : Dev nD => ats c)
        ∗ (bigSep Finset.univ fun c : Dev nD => cpyZ (F := F) c) ∗ bigSep Finset.univ fun c : Dev nD => spareZ (F := F) c)
      ⊢ (bigSep Finset.univ fun c : Dev nD => lin c : sProp 𝕄) := by
  unfold lin
  rw [bigSep_sep', bigSep_sep', bigSep_sep']

theorem ghost_intro (K : Dev nD × Fin 15 → ℕ) (c : Dev nD) : iprop(records m K ∗ lin (F := F) c) ⊢ G' m c := by
  unfold G'; iintro H; iexists K; iexact H

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks (F := F) c
          ∗ cpyZ (F := F) c ∗ spareZ (F := F) c) : sProp 𝕄)
      ⊢ bigSep Finset.univ (G' m) := by
  rw [bigSep_sep', bigSep_sep', bigSep_sep', bigSep_sep', ← bigSep_univ_prod (fun p : Dev nD × Fin 15 => iprop(∃ κ : ℕ, cellInv ER (rd m) κ (kcell p))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep' _ (fun c : Dev nD => bigSep Finset.univ fun k : Fin 15 => (atPos ER (kcell (c, k)) 0 ∅ 0 : sProp 𝕄)), ← bigSep_univ_prod (fun p : Dev nD × Fin 15 => (reached ER (kcell p) 0 : sProp 𝕄)),
    bigSep_congr (s := Finset.univ) (fun (c : Dev nD) _ => cells_eq (fun g => (atPos ER g 0 ∅ 0 : sProp 𝕄)) c)]
  iintro ⟨HI, ⟨Hat, #HR⟩, Htok, Hz, Hsp⟩
  ihave HK := (BI.bigSep_exists_pi Finset.univ (fun (p : Dev nD × Fin 15) (κ : ℕ) => (cellInv ER (rd m) κ (kcell p) : sProp 𝕄))) $$ HI
  icases HK with ⟨%K, #HI⟩
  ihave Htk := (toks_around (F := F)) $$ Htok
  iapply (bigSep_beside (R := records m K) fun c _ => ghost_intro m K c)
  isplitr
  · unfold records; isplitl; · iexact HI
    iexact HR
  iapply (lin_join (F := F))
  isplitl [Htk]; · iexact Htk
  isplitl [Hat]; · iexact Hat
  isplitl [Hz] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem bar_eq_iff {a b : Dev nD} : barCell a = barCell b ↔ a = b :=
  ⟨fun h => congrArg (fun g : GSem nD τ sig => g.1.1) h, fun h => h ▸ rfl⟩
theorem rcv_eq_iff {a b : Dev nD} {u v : Fin 7} : rcvCell a u = rcvCell b v ↔ a = b ∧ u = v :=
  ⟨fun h => ⟨congrArg (fun g : GSem nD τ sig => g.1.1) h,
    (by decide : ∀ u v : Fin 7, (.dma (rcvSem u) : SemLoc sig) = .dma (rcvSem v) → u = v) u v (congrArg Prod.snd h)⟩, fun ⟨h, h'⟩ => h ▸ h' ▸ rfl⟩

theorem bar_ne_rcv {a b : Dev nD} {u : Fin 7} : barCell a ≠ rcvCell b u := fun h => by
  have h' : (SemLoc.reg barS : SemLoc sig) = .dma (rcvSem u) := congrArg Prod.snd h
  cases h'

theorem sum_at {ι : Type} (S : Finset ι) (f : ι → CellTallies nD τ sig Unit) (g : GSem nD τ sig) (v : Unit) :
    (∑ i ∈ S, f i) g v = ∑ i ∈ S, f i g v := by rw [Finset.sum_apply, Finsupp.finset_sum_apply]

theorem from_zero : from_ 0 = Finset.univ := by decide

theorem owed_bar (d c : Dev nD) : O₀ d (barCell c) () = ∑ u : Fin 7, if c = pe d u then 1 else 0 := by
  unfold O₀ OB OR
  rw [Pi.add_apply, Finsupp.add_apply, sum_at, sum_at, from_zero,
    Finset.sum_eq_zero fun u _ => (by rw [tallyAt_apply, if_neg fun h => bar_ne_rcv h.1] : tallyAt (rcvCell (pe d u) u) () NT (barCell c) () = 0), zero_add]
  refine Finset.sum_congr rfl fun u _ => ?_
  rw [tallyAt_apply]
  exact if_congr ⟨fun h => bar_eq_iff.mp h.1, fun h => ⟨bar_eq_iff.mpr h, rfl⟩⟩ rfl rfl

theorem owed_rcv (d c : Dev nD) (u : Fin 7) : O₀ d (rcvCell c u) () = if d = pe c (bk u) then NT else 0 := by
  unfold O₀ OB OR
  rw [Pi.add_apply, Finsupp.add_apply, sum_at, sum_at, from_zero,
    Finset.sum_eq_zero (f := fun v => tallyAt (barCell (pe d v)) () 1 (rcvCell c u) ())
      fun v _ => (by rw [tallyAt_apply, if_neg fun h => bar_ne_rcv h.1.symm] : tallyAt (barCell (pe d v)) () 1 (rcvCell c u) () = 0), add_zero,
    Finset.sum_eq_single u (fun v _ hv => by rw [tallyAt_apply, if_neg fun h => hv (rcv_eq_iff.mp h.1).2.symm]) (fun h => absurd (Finset.mem_univ u) h), tallyAt_apply]
  exact if_congr ⟨fun h => by rw [(rcv_eq_iff.mp h.1).1, pe_bk], fun h => ⟨by rw [h, pe_bk'], rfl⟩⟩ rfl rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun v => ?_); cases v
  rw [Pipeline.launchCredit_owing, Finsupp.single_eq_same, Finset.sum_congr rfl fun d _ => owed_bar d c]
  revert c; decide

theorem launch_rcv (c : Dev nD) (u : Fin 7) :
    tallyOn (rcvCell c u) (launchCredit (Pipeline.owing O₀) 0 (rcvCell c u)) = (tallyAt (rcvCell c u) () NT : CellTallies nD τ sig Unit) := by
  unfold tallyAt; refine congrArg _ (Finsupp.ext fun v => ?_); cases v
  rw [Pipeline.launchCredit_owing, Finsupp.single_eq_same, Finset.sum_congr rfl fun d _ => owed_rcv d c u, Finset.sum_ite_eq' Finset.univ (pe c (bk u)) fun _ => NT,
    if_pos (Finset.mem_univ _)]

abbrev rE : Fin 7 ↪ SemLoc sig := ⟨fun u => .dma (rcvSem u), by decide⟩

theorem creds (c : Dev nD) : (Pipeline.launchCred O₀ c : sProp 𝕄) ⊢ crs (F := F) c := by
  unfold Pipeline.launchCred crs
  rw [bigSep_univ_at _ (SemLoc.reg barS), launch_bar]
  refine sep_mono_right ?_
  refine BI.Entails.trans (BI.bigSep_subset (t := Finset.univ.map rE) fun s hs => ?_)
    (BI.Entails.trans (Q := bigSep Finset.univ fun u => cred (tallyAt (rcvCell c u) () NT)) ?_ (Entails.refl _))
  · obtain ⟨u, -, rfl⟩ := Finset.mem_map.mp hs
    exact Finset.mem_erase.mpr ⟨fun h => (by cases h), Finset.mem_univ _⟩
  · rw [BI.bigSep_map]
    exact Entails.of_eq <| bigSep_congr fun u _ => congrArg (fun t => (cred t : sProp 𝕄)) (launch_rcv c u)

/-! ## The side conditions -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Start m c ∗ emp) := by
  rw [Pipeline.unscopedRestP_none, unscopedRest0_eq]
  iintro ⟨Hw, Hlev, Hcr, -, HG⟩
  ihave Hc := (creds (F := F) c) $$ Hcr
  imodintro
  unfold Start G' records lin ctx
  icases HG with ⟨%K, ⟨HI, HR⟩, Hp, Ha, Hz, Hsp⟩
  isplitl
  · iexists K
    isplitl [HI HR Hlev]
    · isplitl [HI]; · iexact HI
      isplitl [HR] <;> iassumption
    isplitl [Hp]; · iexact Hp
    isplitl [Ha]; · iexact Ha
    isplitl [Hc]; · iexact Hc
    isplitl [Hz]; · iexact Hz
    isplitl [Hsp]; · iexact Hsp
    unfold wP; iexact Hw
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ vAny sAny rAny yP
  iintro ⟨Hs, -, H0, H1, H2, H3⟩
  isplitl [Hs]; · iexact Hs
  isplitl [H0]; · iexact H0
  isplitl [H1]; · iexact H1
  isplitl [H2]; · iexact H2
  iexact H3

theorem phi1_exit (c : Dev nD) :
    (dats m ρ 0 c).Φ (Fin.last cfg0.N) ⊢ iprop((wP m c fullShare ∗ unscopedSems0 c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ vAny sAny rAny yP
  iintro ⟨Hw, Hb, Hz, H0, H1, H2, H3⟩
  isplitl [Hw Hb]
  · isplitl [Hw] <;> iassumption
  isplitl [Hz]; · iexact Hz
  isplitl [H0]; · iexact H0
  isplitl [H1]; · iexact H1
  isplitl [H2]; · iexact H2
  iexact H3

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read off at the end: `w` unchanged, the unscoped counters at zero. -/
theorem read_end (c : Dev nD) (s' : Phys nD τ sig (Elt F)) :
    iprop((wP m c fullShare ∗ unscopedSems0 c) ∗ emp ∗ SI s')
      ⊢ |={Set.univ}=> iprop(⌜s'.mem.mem ((c : Thread nD τ).loc main_arg1) = m ((c : Thread nD τ).loc main_arg1)
          ∧ ∀ sm : SemLoc sig, sm.isScoped .tc = false → s'.mem.sem ((c.tc : Thread nD τ), sm) = 0⌝ ∗ SI s') := by
  iintro ⟨⟨Hw, Hu⟩, -, HSI⟩
  imod (Pipeline.unscopedSems0_read (X := unscopedSems0 c) (c := c) fupd_intro s') $$ [Hu HSI] with ⟨%hs, HSI⟩
  · isplitl [Hu] <;> iassumption
  unfold wP
  icombine HSI Hw gives %hw
  imodintro
  isplitr
  · ipureintro
    exact ⟨funext fun i => hw i (Finset.mem_univ i), hs⟩
  iexact HSI

/-! ## The run -/

/-- Every array of a window ends as `finalA` says, and `w` as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- From any memory with every counter zero, on the mesh of eight devices, every fair execution of the program terminates;
    at the end every device's arrays are at the stated contents and every counter is zero. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_ring m) $$ [HX] with HG
      · unfold ER; iexact HX
      imodintro
      isplitl [HP] <;> iassumption)
    (hglob := glob m)
    (hA := fun _ _ => rfl) (hpf := fun _ k => k.elim0)
    (X := Start m) (Y := fun c => iprop(wP m c fullShare ∗ unscopedSems0 c)) (Z := fun _ => iprop(emp))
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := read_end m)
    (hQ := fun _ h hs => ⟨fun c => ⟨fun w => (h c).1 w, (h c).2.2.1⟩, sem_eq_zero hs fun c => (h c).2.2.2⟩)

/-- The run, read at the program's arrays. -/
theorem run_main : θ_run defs (onTc (τ := τ) (main (F := F))) ⟨m, fun _ => 0, ρ⟩ (fun r => (∀ c : Dev nD,
      r.2.mem ((c : Thread nD τ).loc main_v1) = outC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨((h.1 c).1 (3 : Fin 4)).trans (finalA_o m ρ c), ((h.1 c).1 (0 : Fin 4)).trans (finalA_x m ρ c),
    (h.1 c).2, ((h.1 c).1 (1 : Fin 4)).trans (finalA_sx m ρ c), ((h.1 c).1 (2 : Fin 4)).trans (finalA_sw m ρ c)⟩, h.2⟩) (run_all m ρ)

end Cert.MeshMatmul
-- ==== Proof.Value.lean ====
/-
# The result over the extended reals

With exact sums the four partial products of a pair add up to the whole product of a row of `x` with a column of `w`, and
rounding to bf16 and back changes nothing. So device `c` ends with, in its column block, what one device computes from the
whole arrays.
-/
module

public import proofs.«01_k».proof.Proof.Spec
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.PureOps.Ideal.Laws

@[expose] public section

set_option maxRecDepth 16384

noncomputable section

namespace Cert.MeshMatmul

open Cert.KernelIdeal Cert.KernelIdeal.Gen
open Idealize.ShloMosaic Idealize.ShloMosaic.TcCoe Idealize.ShloMosaic.ValueIdx Idealize.ShloMosaic.StackMember
open Idealize.SL.Sem

/-! ## One step -/

/-- A partial product: row `i 0` of `a` with column `i 1` of the one slot `b`. -/
def part (a : S512x1024.Idx → EReal) (b : S1x1024x2048.Idx → EReal) (i : S512x2048.Idx) : EReal :=
  ∑ k ∈ Finset.range 1024, a (ixT (i 0).val k) * b (at3 1 1024 2048 (by decide) (by decide) (by decide) 0 k (i 1).val)

theorem dot_step : dot_S512x1024_S1024x2048_S512x2048_1_0_0_1_n_n = DotDims.plain 512 1024 2048 := rfl

theorem part_eq (a : FVec Ideal S512x1024 .f32) (b : FVec Ideal S1x1024x2048 .f32) (i : S512x2048.Idx) :
    matmul dot_S512x1024_S1024x2048_S512x2048_1_0_0_1_n_n none a (shapeCast S1024x2048 b shapeCasts_S1x1024x2048_S1024x2048)
      (constant S512x2048 .f32 0x00000000#32) i = part a b i := by
  obtain ⟨r, n, rfl⟩ : ∃ r n, i = ix2 r n := ⟨i 0, i 1, eq_ix2 i⟩
  rw [dot_step]
  refine (Ideal.matmul_plain_apply none a _ _ r n).trans ?_
  rw [show (constant S512x2048 .f32 0x00000000#32 : FVec Ideal S512x2048 .f32) (ix2 r n) = 0 from Ideal.ofBits_zero_f32, zero_add, part, Finset.sum_range]
  refine Finset.sum_congr rfl fun k _ => congrArg₂ (· * ·) (congrArg a (idx2_ext ?_ ?_)) ?_
  · exact (Nat.mod_eq_of_lt r.isLt).symm
  · exact (Nat.mod_eq_of_lt k.isLt).symm
  · rw [shapeCast_dropUnit_apply]
    refine congrArg b (idx3_ext ?_ ?_ ?_)
    · rfl
    · exact (Nat.mod_eq_of_lt k.isLt).symm
    · exact (Nat.mod_eq_of_lt n.isLt).symm

theorem pay2_at (a : Vec Ideal S512x1024 .f32) (b : Vec Ideal S1x1024x2048 .f32) (i : S512x2048.Idx) : k0_pay2 a b i = part a b i := by
  unfold k0_pay2
  simp only [shapeCast_self]
  exact part_eq a b i

theorem pay3_at (a : Vec Ideal S512x1024 .f32) (b : Vec Ideal S1x1024x2048 .f32) (y : Vec Ideal S512x2048 .f32) (i : S512x2048.Idx) :
    k0_pay3 a b y i = (y i + part a b i : EReal) := by
  unfold k0_pay3
  simp only [shapeCast_self]
  exact congrArg (fun z : EReal => (y i + z : EReal)) (part_eq a b i)

/-! ## The sums -/

variable (m : (ℓ : Loc nD τ sig) → Buf (Elt Ideal) ℓ)

/-- The first `n` terms of the product of device `o`'s row `r` with column `q` of its `w`. -/
def dots (o : Dev nD) (r q n : ℕ) : EReal := ∑ t ∈ Finset.range n, (xC m o (ixX r t) * wC m o (ixW t q) : EReal)

theorem part_dots (o : Dev nD) (p k : ℕ) (hk : k < 4) (i : S512x2048.Idx) :
    part (xBlk m o k) (wBlk m o p k) i
      = ∑ t ∈ Finset.range 1024, (xC m o (ixX (i 0).val (1024 * k + t)) * wC m o (ixW (1024 * k + t) (1024 * ((o.val + 2 * p + (i 1).val / 1024 + 1) % 8) + (i 1).val % 1024)) : EReal) := by
  have h0 : (i 0).val < 512 := (i 0).isLt
  have h1 : (i 1).val < 2048 := (i 1).isLt
  refine Finset.sum_congr rfl fun t ht => ?_
  have ht' : t < 1024 := Finset.mem_range.mp ht
  unfold xBlk wBlk wAt
  refine congrArg₂ (fun a b : EReal => a * b) (congrArg (xC m o) ?_) (congrArg (wC m o) ?_)
  · show ixX ((i 0).val % 512) (1024 * k + t % 1024) = _
    rw [Nat.mod_eq_of_lt h0, Nat.mod_eq_of_lt ht']
  · show ixW (1024 * k + t % 1024) (1024 * ((o.val + 2 * p + (i 1).val % 2048 / 1024 + 1) % 8) + (i 1).val % 2048 % 1024) = _
    rw [Nat.mod_eq_of_lt h1, Nat.mod_eq_of_lt ht']

theorem acc_eq (o : Dev nD) (p : ℕ) (i : S512x2048.Idx) : ∀ k < 4, acc m o p k i
    = dots m o (i 0).val (1024 * ((o.val + 2 * p + (i 1).val / 1024 + 1) % 8) + (i 1).val % 1024) (1024 * k + 1024)
  | 0, hk => by
    rw [acc, pay2_at, part_dots m o p 0 hk, dots]
    simp only [Nat.mul_zero, Nat.zero_add]
  | k + 1, hk => by
    rw [acc, pay3_at, part_dots m o p (k + 1) hk, acc_eq o p i k (by omega), dots, dots, Finset.sum_range_add _ (1024 * (k + 1)) 1024,
      show 1024 * (k + 1) = 1024 * k + 1024 from rfl]

/-! ## The tiles -/

/-- Scaled and clamped at zero. -/
def relu (s a : EReal) : EReal := max (a * s) 0

theorem pay30_at (s : Ideal .f32) (Y : Vec Ideal S512x1024 .f32) (i : S512x1024.Idx) : k0_pay30 s Y i = relu s (Y i) := by
  unfold k0_pay30 relu
  show max ((Y i : EReal) * s) (Ideal.ofBits .f32 0x00000000#32) = _
  rw [Ideal.ofBits_zero_f32]

theorem pay22_pay6_at (s : Ideal .f32) (Y : Vec Ideal S512x1024 .f32) (i : S512x1024.Idx) : k0_pay22 (k0_pay6 s Y) i = relu s (Y i) := by
  unfold k0_pay22 k0_pay6
  exact (congrFun (shapeCast_shapeCast (k0_pay30 s Y) shapeCasts_S512x1024_S1x512x1024 shapeCasts_S1x512x1024_S512x1024) i).trans (pay30_at s Y i)

theorem half_at (o : Dev nD) (p j : ℕ) (hj : j < 2) (r n : ℕ) (hr : r < 512) (hn : n < 1024) :
    half j (acc m o p 3) (ixT r n) = dots m o r (1024 * ((o.val + 2 * p + j + 1) % 8) + n) 4096 := by
  show acc m o p 3 (ixY (r % 512) (1024 * j + n % 1024)) = _
  rw [acc_eq m o p _ 3 (by decide)]
  have e0 : ((ixY (r % 512) (1024 * j + n % 1024)) 0).val = r := by show r % 512 % 512 = r; omega
  have e1 : ((ixY (r % 512) (1024 * j + n % 1024)) 1).val = 1024 * j + n := by show (1024 * j + n % 1024) % 2048 = _; omega
  rw [e0, e1, show (1024 * j + n) / 1024 = j by omega, show (1024 * j + n) % 1024 = n by omega]

/-- The element of the result at row `R`, column `n` of device `c`'s block. -/
theorem outC_at (c : Dev nD) (i : S4096x1024.Idx) (o : Dev nD) (ho : o.val = (i 0).val / 512) :
    outC m c i = relu (scl m o) (dots m o ((i 0).val % 512) (1024 * c.val + (i 1).val) 4096) := by
  have h1 : (i 1).val < 1024 := (i 1).isLt
  have hr : (i 0).val % 512 < 512 := Nat.mod_lt _ (by decide)
  unfold outC
  split
  · rename_i h
    obtain rfl : o = c := Fin.ext (ho.trans h)
    unfold own
    rw [pay30_at, half_at m o 3 1 (by decide) _ _ hr h1, show (o.val + 2 * 3 + 1 + 1) % 8 = o.val by have : o.val < 8 := o.isLt; omega]
  · rename_i h
    rw [← ho] at h
    rw [show (⟨(c.val + 7 - (i 0).val / 512) % 8 % 7, Nat.mod_lt _ (by decide)⟩ : Fin 7) = ⟨(c.val + 7 - o.val) % 8 % 7, Nat.mod_lt _ (by decide)⟩
      from Fin.ext (by rw [ho])]
    unfold got tile
    rw [(by decide : ∀ o c : Dev nD, ¬ o.val = c.val → pe c (bk ⟨(c.val + 7 - o.val) % 8 % 7, Nat.mod_lt _ (by decide)⟩) = o) o c h,
      pay22_pay6_at, half_at m o _ _ (Nat.mod_lt _ (by decide)) _ _ hr h1,
      (by decide : ∀ o c : Dev nD, ¬ o.val = c.val → (o.val + 2 * ((c.val + 7 - o.val) % 8 % 7 / 2) + (c.val + 7 - o.val) % 8 % 7 % 2 + 1) % 8 = c.val) o c h]

/-! ## The reference -/

/-- A one-element array has one index. -/
theorem idx1_only (i j : (⟨1, ![1]⟩ : Shape).Idx) : i = j :=
  funext fun | ⟨0, _⟩ => Fin.ext (by have := (i 0).isLt; have := (j 0).isLt; simp at *; omega)

section Reference

variable (X : FVec Ideal ⟨2, ![4096, 4096]⟩ .f32) (W : FVec Ideal ⟨2, ![4096, 8192]⟩ .f32) (sx sw : FVec Ideal ⟨1, ![1]⟩ .f32)

/-- What one device computes from the whole arrays. -/
def refOut : FVec Ideal ⟨2, ![4096, 8192]⟩ .f32 :=
  maximumf (mulf (Host.dotGeneral Cert.ReferenceIdeal.dot_S4096x4096_S4096x8192_S4096x8192_1_0_0_1_n_n none X W)
    (broadcastInDim Cert.ReferenceIdeal.S4096x8192 ![0, 1] Cert.ReferenceIdeal.Gen.bcast_S1x1_S4096x8192_0_1
      (broadcastInDim Cert.ReferenceIdeal.S1x1 ![1] Cert.ReferenceIdeal.Gen.bcast_S1_S1x1_1 (mulf sx sw))))
    (broadcastInDim Cert.ReferenceIdeal.S4096x8192 ![] Cert.ReferenceIdeal.Gen.bcast_S_S4096x8192 (constant Cert.ReferenceIdeal.S_ .f32 0x00000000#32))

theorem refOut_at (R : Fin 4096) (C : Fin 8192) :
    refOut X W sx sw (ix2 R C) = relu (sx ix1 * sw ix1 : EReal) (∑ t : Fin 4096, (X (ix2 R t) * W (ix2 t C) : EReal)) := by
  unfold refOut relu
  have hd := dotGeneral_plain_apply none X W R C
  have hz := Ideal.ofBits_zero_f32
  refine congrArg₂ (fun a b : EReal => max a b) (congrArg₂ (fun a b : EReal => a * b) hd ?_) hz
  exact congrArg₂ (fun a b : EReal => a * b) (congrArg sx (idx1_only _ _)) (congrArg sw (idx1_only _ _))

theorem refOut_idx (j : (⟨2, ![4096, 8192]⟩ : Shape).Idx) (R : Fin 4096) (C : Fin 8192) (hR : (j 0).val = R.val) (hC : (j 1).val = C.val) :
    refOut X W sx sw j = relu (sx ix1 * sw ix1 : EReal) (∑ t : Fin 4096, (X (ix2 R t) * W (ix2 t C) : EReal)) := by
  obtain rfl : j = ix2 R C := idx2_ext hR hC
  exact refOut_at X W sx sw R C

end Reference

/-- With `x` cut by rows over the devices and the rest the same on every device, device `c`'s result is its column block
    of the reference's. -/
theorem outC_eq (X : FVec Ideal ⟨2, ![4096, 4096]⟩ .f32) (W : FVec Ideal ⟨2, ![4096, 8192]⟩ .f32) (sx sw : FVec Ideal ⟨1, ![1]⟩ .f32)
    (hX : ∀ c : Dev nD, xC m c = Layout.block ⟨2, ![512, 4096]⟩ ⟨2, ![4096, 4096]⟩ 0 8 c X) (hW : ∀ c, wC m c = W)
    (hsx : ∀ c, sxC m c = sx) (hsw : ∀ c, swC m c = sw) (c : Dev nD) :
    outC m c = Layout.block ⟨2, ![4096, 1024]⟩ ⟨2, ![4096, 8192]⟩ 1 8 c (refOut X W sx sw) := by
  funext i
  have h0 : (i 0).val < 4096 := (i 0).isLt
  have h1 : (i 1).val < 1024 := (i 1).isLt
  have hc : c.val < 8 := c.isLt
  rw [outC_at m c i ⟨(i 0).val / 512, (by omega : (i 0).val / 512 < 8)⟩ rfl, Layout.block_apply,
    refOut_idx X W sx sw _ ⟨(i 0).val, h0⟩ ⟨c.val * 1024 + (i 1).val, by omega⟩ rfl rfl]
  refine congrArg₂ relu ?_ ?_
  · show (sxC m _ ix1 * swC m _ ix1 : EReal) = _
    rw [hsx, hsw]
  · unfold dots
    rw [Finset.sum_range]
    refine Finset.sum_congr rfl fun t _ => ?_
    have ht : t.val < 4096 := t.isLt
    rw [hX, hW, Layout.block_apply]
    refine congrArg₂ (fun a b : EReal => a * b) (congrArg X (idx2_ext ?_ ?_)) (congrArg W (idx2_ext ?_ ?_))
    · show (i 0).val / 512 * 512 + (i 0).val % 512 % 512 = (i 0).val; omega
    · show t.val % 4096 = t.val; omega
    · show t.val % 4096 = t.val; omega
    · show (1024 * c.val + (i 1).val) % 8192 = c.val * 1024 + (i 1).val; omega

end Cert.MeshMatmul
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two printings of the kernel have the same text. The body tables are compared label by label, there being one. -/
theorem bodies_eq : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) => rfl

theorem defs_eq : Cert.Kernel.defs (F := Bits) = Cert.KernelIdeal.defs := congrArg (Pipeline.defs Cert.KernelIdeal.pcfgs) bodies_eq

/-- So the run proved of the one, at any float values, is the run of the other. -/
theorem run_kernel (s : MemSt Cert.KernelIdeal.nD Cert.KernelIdeal.τ Cert.KernelIdeal.sig (Elt Bits)) (P)
    (h : θ_run Cert.KernelIdeal.defs (onTc (τ := Cert.KernelIdeal.τ) (Cert.KernelIdeal.main (F := Bits))) s P) :
    θ_run Cert.Kernel.defs (onTc (τ := Cert.Kernel.τ) (Cert.Kernel.main (F := Bits))) s P :=
  (congrArg (fun D => θ_run D (onTc (τ := Cert.KernelIdeal.τ) (Cert.KernelIdeal.main (F := Bits))) s P) defs_eq).mpr h

theorem frame_kernel : Cert.quiescent_Kernel := fun m ρ _ => run_kernel ⟨m, fun _ => 0, ρ⟩ _
  ((θ_run Cert.KernelIdeal.defs _ _).mono (fun _ h => ⟨fun c => (h.1 c).2, h.2⟩) (Cert.MeshMatmul.run_main (F := Bits) m ρ))

theorem frame_ideal : Cert.quiescent_KernelIdeal := fun m ρ _ =>
  (θ_run Cert.KernelIdeal.defs _ _).mono (fun _ h => ⟨fun c => (h.1 c).2, h.2⟩) (Cert.MeshMatmul.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem preserves : Cert.preserves_Kernel_KernelIdeal := trivial

/-- On every device the kernel ends with its block of what the reference computes. -/
theorem algebraic : Cert.algebraic_KernelIdeal_ReferenceIdeal := fun m ρ m' ρ' _ hin =>
  ⟨Cert.MeshMatmul.refOut _ _ _ _,
    (θ_run Cert.KernelIdeal.defs _ _).mono (fun _ h c =>
      ⟨((h.1 c).1).trans (Cert.MeshMatmul.outC_eq m _ _ _ _ (fun c => (hin c).1) (fun c => (hin c).2.1) (fun c => (hin c).2.2.1)
        (fun c => (hin c).2.2.2) c), (h.1 c).2⟩) (Cert.MeshMatmul.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, preserves, algebraic⟩

end Cert.Proof

end
